-- ==== Defs.lean ====
def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8))
      ∧ r.2.sem = fun _ => 0)

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)) →
    ∃ (v0 : (c : Dev Cert.OddIdeal.nD) → Buf (Elt Ideal) ((c.tc : Thread Cert.OddIdeal.nD Cert.OddIdeal.τ).loc Cert.OddIdeal.main_v14)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v14) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v285) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v9_0)) (v1 : (c : Dev Cert.EvenInIdeal.nD) → Buf (Elt Ideal) ((c.tc : Thread Cert.EvenInIdeal.nD Cert.EvenInIdeal.τ).loc Cert.EvenInIdeal.main_v9_1)) (v2 : (c : Dev Cert.EvenInIdeal.nD) → Buf (Elt Ideal) ((c.tc : Thread Cert.EvenInIdeal.nD Cert.EvenInIdeal.τ).loc Cert.EvenInIdeal.main_v9_2)) (v3 : (c : Dev Cert.EvenInIdeal.nD) → Buf (Elt Ideal) ((c.tc : Thread Cert.EvenInIdeal.nD Cert.EvenInIdeal.τ).loc Cert.EvenInIdeal.main_v9_3)) (v4 : (c : Dev Cert.EvenInIdeal.nD) → Buf (Elt Ideal) ((c.tc : Thread Cert.EvenInIdeal.nD Cert.EvenInIdeal.τ).loc Cert.EvenInIdeal.main_v9_4)) (v5 : (c : Dev Cert.EvenInIdeal.nD) → Buf (Elt Ideal) ((c.tc : Thread Cert.EvenInIdeal.nD Cert.EvenInIdeal.τ).loc Cert.EvenInIdeal.main_v9_5)) (v6 : (c : Dev Cert.EvenInIdeal.nD) → Buf (Elt Ideal) ((c.tc : Thread Cert.EvenInIdeal.nD Cert.EvenInIdeal.τ).loc Cert.EvenInIdeal.main_v9_6)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v9_0) = v0 c
          ∧ r.2.mem ((c.tc : Thread Cert.EvenInIdeal.nD Cert.EvenInIdeal.τ).loc Cert.EvenInIdeal.main_v9_1) = v1 c
          ∧ r.2.mem ((c.tc : Thread Cert.EvenInIdeal.nD Cert.EvenInIdeal.τ).loc Cert.EvenInIdeal.main_v9_2) = v2 c
          ∧ r.2.mem ((c.tc : Thread Cert.EvenInIdeal.nD Cert.EvenInIdeal.τ).loc Cert.EvenInIdeal.main_v9_3) = v3 c
          ∧ r.2.mem ((c.tc : Thread Cert.EvenInIdeal.nD Cert.EvenInIdeal.τ).loc Cert.EvenInIdeal.main_v9_4) = v4 c
          ∧ r.2.mem ((c.tc : Thread Cert.EvenInIdeal.nD Cert.EvenInIdeal.τ).loc Cert.EvenInIdeal.main_v9_5) = v5 c
          ∧ r.2.mem ((c.tc : Thread Cert.EvenInIdeal.nD Cert.EvenInIdeal.τ).loc Cert.EvenInIdeal.main_v9_6) = v6 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v81) = v0 c
          ∧ r.2.mem ((c.tc : Thread Cert.EvenInRefIdeal.nD Cert.EvenInRefIdeal.τ).loc Cert.EvenInRefIdeal.main_v82) = v1 c
          ∧ r.2.mem ((c.tc : Thread Cert.EvenInRefIdeal.nD Cert.EvenInRefIdeal.τ).loc Cert.EvenInRefIdeal.main_v83) = v2 c
          ∧ r.2.mem ((c.tc : Thread Cert.EvenInRefIdeal.nD Cert.EvenInRefIdeal.τ).loc Cert.EvenInRefIdeal.main_v84) = v3 c
          ∧ r.2.mem ((c.tc : Thread Cert.EvenInRefIdeal.nD Cert.EvenInRefIdeal.τ).loc Cert.EvenInRefIdeal.main_v85) = v4 c
          ∧ r.2.mem ((c.tc : Thread Cert.EvenInRefIdeal.nD Cert.EvenInRefIdeal.τ).loc Cert.EvenInRefIdeal.main_v86) = v5 c
          ∧ r.2.mem ((c.tc : Thread Cert.EvenInRefIdeal.nD Cert.EvenInRefIdeal.τ).loc Cert.EvenInRefIdeal.main_v93) = v6 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)) →
    ∃ (v0 : (c : Dev Cert.EvenOutIdeal.nD) → Buf (Elt Ideal) ((c.tc : Thread Cert.EvenOutIdeal.nD Cert.EvenOutIdeal.τ).loc Cert.EvenOutIdeal.main_v5)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v5) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v30) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8))

def Claim : Prop :=
  ∃ (hOdd : Cert.Odd.Facts) (hOddIdeal : Cert.OddIdeal.Facts) (hOddRefIdeal : Cert.OddRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts),
    quiescent_Odd (hOdd := hOdd)
    ∧ quiescent_OddIdeal (hOddIdeal := hOddIdeal)
    ∧ quiescent_OddRefIdeal (hOddRefIdeal := hOddRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ preserves_Odd_OddIdeal
    ∧ algebraic_OddIdeal_OddRefIdeal (hOddIdeal := hOddIdeal) (hOddRefIdeal := hOddRefIdeal)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
-- ==== Odd.lean ====
abbrev S16x2048x1024 : Shape := ⟨3, ![16, 2048, 1024]⟩
abbrev S1024 : Shape := ⟨1, ![1024]⟩
abbrev S1024x3072 : Shape := ⟨2, ![1024, 3072]⟩
abbrev S31x1024 : Shape := ⟨2, ![31, 1024]⟩
abbrev S1024x1024 : Shape := ⟨2, ![1024, 1024]⟩
abbrev S38x8 : Shape := ⟨2, ![38, 8]⟩
abbrev S38x8x1 : Shape := ⟨3, ![38, 8, 1]⟩
abbrev S_ : Shape := ⟨0, ![]⟩
abbrev S38x8x1024 : Shape := ⟨3, ![38, 8, 1024]⟩
abbrev S1x1024 : Shape := ⟨2, ![1, 1024]⟩
abbrev S1x512x1024 : Shape := ⟨3, ![1, 512, 1024]⟩
abbrev S68x8x1024 : Shape := ⟨3, ![68, 8, 1024]⟩
abbrev S512x1024 : Shape := ⟨2, ![512, 1024]⟩
abbrev S512 : Shape := ⟨1, ![512]⟩
abbrev S512x1 : Shape := ⟨2, ![512, 1]⟩
abbrev S4x8x1024 : Shape := ⟨3, ![4, 8, 1024]⟩
abbrev S64x8x1024 : Shape := ⟨3, ![64, 8, 1024]⟩
abbrev S1x8x128 : Shape := ⟨3, ![1, 8, 128]⟩
abbrev S8x128 : Shape := ⟨2, ![8, 128]⟩
abbrev S1x128 : Shape := ⟨2, ![1, 128]⟩
abbrev S1x1x128 : Shape := ⟨3, ![1, 1, 128]⟩

abbrev nBuf : Space → Nat
  | .hbm => 32
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S38x8, .i32⟩
  | .hbm, ⟨10, _⟩ => ⟨S38x8, .i1⟩
  | .hbm, ⟨11, _⟩ => ⟨S38x8, .i1⟩
  | .hbm, ⟨12, _⟩ => ⟨S38x8x1, .i1⟩
  | .hbm, ⟨13, _⟩ => ⟨S_, .i32⟩
  | .hbm, ⟨14, _⟩ => ⟨S38x8, .i32⟩
  | .hbm, ⟨15, _⟩ => ⟨S38x8, .i32⟩
  | .hbm, ⟨16, _⟩ => ⟨S38x8, .i32⟩
  | .hbm, ⟨17, _⟩ => ⟨S38x8x1, .i32⟩
  | .hbm, ⟨18, _⟩ => ⟨S38x8x1024, .f32⟩
  | .hbm, ⟨19, _⟩ => ⟨S_, .f32⟩
  | .hbm, ⟨20, _⟩ => ⟨S_, .f32⟩
  | .hbm, ⟨21, _⟩ => ⟨S38x8x1024, .i1⟩
  | .hbm, ⟨22, _⟩ => ⟨S38x8x1024, .f32⟩
  | .hbm, ⟨23, _⟩ => ⟨S38x8x1024, .f32⟩
  | .hbm, ⟨24, _⟩ => ⟨S1x1024, .f32⟩
  | .hbm, ⟨25, _⟩ => ⟨S1024x3072, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1024x1024, .bf16⟩
  | .hbm, ⟨30, _⟩ => ⟨S1x1024, .f32⟩
  | .hbm, ⟨31, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S38x8x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S68x8x1024, .f32⟩
  | .local _ .vmem, ⟨13, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_c_2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_94 : BitVec 32 := 0#32
  let c32_i32 : BitVec 32 := 32#32
  let v112 : BitVec 32 := Scalar.addi c0_i32_94 c32_i32
  let c1_i32 : BitVec 32 := 1#32
  ⟨c0_i32_94, v112, c1_i32⟩
def k0_off1 (k0_t1 : Fin k0_t1_loop.trips) (c0_i32_958 : BitVec 32) : Fin 3 → Nat :=
  let c0_i32_94 : BitVec 32 := 0#32
  let c1_i32 : BitVec 32 := 1#32
  let arg14 : BitVec 32 := Scf.iv c0_i32_94 c1_i32 k0_t1
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c0_960 : Index := 0#32
  ![v741.toNat, 2, 0]
def k0_off2 (k0_t1 : Fin k0_t1_loop.trips) (c0_i32_962 : BitVec 32) : Fin 3 → Nat :=
  let c0_i32_94 : BitVec 32 := 0#32
  let c1_i32 : BitVec 32 := 1#32
  let arg14 : BitVec 32 := Scf.iv c0_i32_94 c1_i32 k0_t1
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c0_964 : Index := 0#32
  ![v750.toNat, 3, 0]
def k0_off3 (k0_t1 : Fin k0_t1_loop.trips) (c0_i32_966 : BitVec 32) : Fin 3 → Nat :=
  let c0_i32_94 : BitVec 32 := 0#32
  let c1_i32 : BitVec 32 := 1#32
  let arg14 : BitVec 32 := Scf.iv c0_i32_94 c1_i32 k0_t1
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c0_968 : Index := 0#32
  ![v759.toNat, 4, 0]
def k0_off4 (k0_t1 : Fin k0_t1_loop.trips) (c0_i32_970 : BitVec 32) : Fin 3 → Nat :=
  let c0_i32_94 : BitVec 32 := 0#32
  let c1_i32 : BitVec 32 := 1#32
  let arg14 : BitVec 32 := Scf.iv c0_i32_94 c1_i32 k0_t1
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c0_972 : Index := 0#32
  ![v768.toNat, 5, 0]
def k0_off5 (k0_t1 : Fin k0_t1_loop.trips) (c0_i32_974 : BitVec 32) : Fin 3 → Nat :=
  let c0_i32_94 : BitVec 32 := 0#32
  let c1_i32 : BitVec 32 := 1#32
  let arg14 : BitVec 32 := Scf.iv c0_i32_94 c1_i32 k0_t1
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c0_976 : Index := 0#32
  ![v777.toNat, 6, 0]
def k0_off6 (k0_t1 : Fin k0_t1_loop.trips) (c0_i32_978 : BitVec 32) : Fin 3 → Nat :=
  let c0_i32_94 : BitVec 32 := 0#32
  let c1_i32 : BitVec 32 := 1#32
  let arg14 : BitVec 32 := Scf.iv c0_i32_94 c1_i32 k0_t1
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c0_980 : Index := 0#32
  ![v786.toNat, 7, 0]
def k0_off7 (k0_t1 : Fin k0_t1_loop.trips) (c1_i32_982 : BitVec 32) : Fin 3 → Nat :=
  let c0_i32_94 : BitVec 32 := 0#32
  let c1_i32 : BitVec 32 := 1#32
  let arg14 : BitVec 32 := Scf.iv c0_i32_94 c1_i32 k0_t1
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c0_984 : Index := 0#32
  ![v795.toNat, 0, 0]
def k0_off8 (k0_t1 : Fin k0_t1_loop.trips) (c1_i32_986 : BitVec 32) : Fin 3 → Nat :=
  let c0_i32_94 : BitVec 32 := 0#32
  let c1_i32 : BitVec 32 := 1#32
  let arg14 : BitVec 32 := Scf.iv c0_i32_94 c1_i32 k0_t1
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c0_988 : Index := 0#32
  ![v804.toNat, 1, 0]
def k0_mult1 (k0_t1 : Fin k0_t1_loop.trips) : BitVec 32 :=
  let c0_i32_94 : BitVec 32 := 0#32
  let c1_i32 : BitVec 32 := 1#32
  let arg14 : BitVec 32 := Scf.iv c0_i32_94 c1_i32 k0_t1
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off9 (k0_t1 : Fin k0_t1_loop.trips) (c0_i32_1139 : BitVec 32) : Fin 2 → Nat :=
  let c0_i32_94 : BitVec 32 := 0#32
  let c1_i32 : BitVec 32 := 1#32
  let arg14 : BitVec 32 := Scf.iv c0_i32_94 c1_i32 k0_t1
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c0_1140 : Index := 0#32
  ![v1217.toNat, 0]
def k0_mult2 (k0_t1 : Fin k0_t1_loop.trips) : BitVec 32 :=
  let c0_i32_94 : BitVec 32 := 0#32
  let c1_i32 : BitVec 32 := 1#32
  let arg14 : BitVec 32 := Scf.iv c0_i32_94 c1_i32 k0_t1
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t2_loop : Scf.Loop 32 :=
  let c0_i32_211 : BitVec 32 := 0#32
  let c32_i32_212 : BitVec 32 := 32#32
  let v193 : BitVec 32 := Scalar.addi c0_i32_211 c32_i32_212
  let c1_i32_213 : BitVec 32 := 1#32
  ⟨c0_i32_211, v193, c1_i32_213⟩
def k0_off10 (k0_t2 : Fin k0_t2_loop.trips) (c0_i32_958 : BitVec 32) : Fin 3 → Nat :=
  let c0_i32_211 : BitVec 32 := 0#32
  let c1_i32_213 : BitVec 32 := 1#32
  let arg14 : BitVec 32 := Scf.iv c0_i32_211 c1_i32_213 k0_t2
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c128_960 : Index := 128#32
  ![v741.toNat, 2, 128]
def k0_off11 (k0_t2 : Fin k0_t2_loop.trips) (c0_i32_962 : BitVec 32) : Fin 3 → Nat :=
  let c0_i32_211 : BitVec 32 := 0#32
  let c1_i32_213 : BitVec 32 := 1#32
  let arg14 : BitVec 32 := Scf.iv c0_i32_211 c1_i32_213 k0_t2
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c128_964 : Index := 128#32
  ![v750.toNat, 3, 128]
def k0_off12 (k0_t2 : Fin k0_t2_loop.trips) (c0_i32_966 : BitVec 32) : Fin 3 → Nat :=
  let c0_i32_211 : BitVec 32 := 0#32
  let c1_i32_213 : BitVec 32 := 1#32
  let arg14 : BitVec 32 := Scf.iv c0_i32_211 c1_i32_213 k0_t2
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c128_968 : Index := 128#32
  ![v759.toNat, 4, 128]
def k0_off13 (k0_t2 : Fin k0_t2_loop.trips) (c0_i32_970 : BitVec 32) : Fin 3 → Nat :=
  let c0_i32_211 : BitVec 32 := 0#32
  let c1_i32_213 : BitVec 32 := 1#32
  let arg14 : BitVec 32 := Scf.iv c0_i32_211 c1_i32_213 k0_t2
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c128_972 : Index := 128#32
  ![v768.toNat, 5, 128]
def k0_off14 (k0_t2 : Fin k0_t2_loop.trips) (c0_i32_974 : BitVec 32) : Fin 3 → Nat :=
  let c0_i32_211 : BitVec 32 := 0#32
  let c1_i32_213 : BitVec 32 := 1#32
  let arg14 : BitVec 32 := Scf.iv c0_i32_211 c1_i32_213 k0_t2
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c128_976 : Index := 128#32
  ![v777.toNat, 6, 128]
def k0_off15 (k0_t2 : Fin k0_t2_loop.trips) (c0_i32_978 : BitVec 32) : Fin 3 → Nat :=
  let c0_i32_211 : BitVec 32 := 0#32
  let c1_i32_213 : BitVec 32 := 1#32
  let arg14 : BitVec 32 := Scf.iv c0_i32_211 c1_i32_213 k0_t2
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c128_980 : Index := 128#32
  ![v786.toNat, 7, 128]
def k0_off16 (k0_t2 : Fin k0_t2_loop.trips) (c1_i32_982 : BitVec 32) : Fin 3 → Nat :=
  let c0_i32_211 : BitVec 32 := 0#32
  let c1_i32_213 : BitVec 32 := 1#32
  let arg14 : BitVec 32 := Scf.iv c0_i32_211 c1_i32_213 k0_t2
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c128_984 : Index := 128#32
  ![v795.toNat, 0, 128]
def k0_off17 (k0_t2 : Fin k0_t2_loop.trips) (c1_i32_986 : BitVec 32) : Fin 3 → Nat :=
  let c0_i32_211 : BitVec 32 := 0#32
  let c1_i32_213 : BitVec 32 := 1#32
  let arg14 : BitVec 32 := Scf.iv c0_i32_211 c1_i32_213 k0_t2
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c128_988 : Index := 128#32
  ![v804.toNat, 1, 128]
def k0_mult3 (k0_t2 : Fin k0_t2_loop.trips) : BitVec 32 :=
  let c0_i32_211 : BitVec 32 := 0#32
  let c1_i32_213 : BitVec 32 := 1#32
  let arg14 : BitVec 32 := Scf.iv c0_i32_211 c1_i32_213 k0_t2
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off18 (k0_t2 : Fin k0_t2_loop.trips) (c0_i32_1139 : BitVec 32) : Fin 2 → Nat :=
  let c0_i32_211 : BitVec 32 := 0#32
  let c1_i32_213 : BitVec 32 := 1#32
  let arg14 : BitVec 32 := Scf.iv c0_i32_211 c1_i32_213 k0_t2
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c128_1140 : Index := 128#32
  ![v1217.toNat, 128]
def k0_mult4 (k0_t2 : Fin k0_t2_loop.trips) : BitVec 32 :=
  let c0_i32_211 : BitVec 32 := 0#32
  let c1_i32_213 : BitVec 32 := 1#32
  let arg14 : BitVec 32 := Scf.iv c0_i32_211 c1_i32_213 k0_t2
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t3_loop : Scf.Loop 32 :=
  let c0_i32_330 : BitVec 32 := 0#32
  let c32_i32_331 : BitVec 32 := 32#32
  let v274 : BitVec 32 := Scalar.addi c0_i32_330 c32_i32_331
  let c1_i32_332 : BitVec 32 := 1#32
  ⟨c0_i32_330, v274, c1_i32_332⟩
def k0_off19 (k0_t3 : Fin k0_t3_loop.trips) (c0_i32_958 : BitVec 32) : Fin 3 → Nat :=
  let c0_i32_330 : BitVec 32 := 0#32
  let c1_i32_332 : BitVec 32 := 1#32
  let arg14 : BitVec 32 := Scf.iv c0_i32_330 c1_i32_332 k0_t3
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c256_960 : Index := 256#32
  ![v741.toNat, 2, 256]
def k0_off20 (k0_t3 : Fin k0_t3_loop.trips) (c0_i32_962 : BitVec 32) : Fin 3 → Nat :=
  let c0_i32_330 : BitVec 32 := 0#32
  let c1_i32_332 : BitVec 32 := 1#32
  let arg14 : BitVec 32 := Scf.iv c0_i32_330 c1_i32_332 k0_t3
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c256_964 : Index := 256#32
  ![v750.toNat, 3, 256]
def k0_off21 (k0_t3 : Fin k0_t3_loop.trips) (c0_i32_966 : BitVec 32) : Fin 3 → Nat :=
  let c0_i32_330 : BitVec 32 := 0#32
  let c1_i32_332 : BitVec 32 := 1#32
  let arg14 : BitVec 32 := Scf.iv c0_i32_330 c1_i32_332 k0_t3
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c256_968 : Index := 256#32
  ![v759.toNat, 4, 256]
def k0_off22 (k0_t3 : Fin k0_t3_loop.trips) (c0_i32_970 : BitVec 32) : Fin 3 → Nat :=
  let c0_i32_330 : BitVec 32 := 0#32
  let c1_i32_332 : BitVec 32 := 1#32
  let arg14 : BitVec 32 := Scf.iv c0_i32_330 c1_i32_332 k0_t3
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c256_972 : Index := 256#32
  ![v768.toNat, 5, 256]
def k0_off23 (k0_t3 : Fin k0_t3_loop.trips) (c0_i32_974 : BitVec 32) : Fin 3 → Nat :=
  let c0_i32_330 : BitVec 32 := 0#32
  let c1_i32_332 : BitVec 32 := 1#32
  let arg14 : BitVec 32 := Scf.iv c0_i32_330 c1_i32_332 k0_t3
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c256_976 : Index := 256#32
  ![v777.toNat, 6, 256]
def k0_off24 (k0_t3 : Fin k0_t3_loop.trips) (c0_i32_978 : BitVec 32) : Fin 3 → Nat :=
  let c0_i32_330 : BitVec 32 := 0#32
  let c1_i32_332 : BitVec 32 := 1#32
  let arg14 : BitVec 32 := Scf.iv c0_i32_330 c1_i32_332 k0_t3
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c256_980 : Index := 256#32
  ![v786.toNat, 7, 256]
def k0_off25 (k0_t3 : Fin k0_t3_loop.trips) (c1_i32_982 : BitVec 32) : Fin 3 → Nat :=
  let c0_i32_330 : BitVec 32 := 0#32
  let c1_i32_332 : BitVec 32 := 1#32
  let arg14 : BitVec 32 := Scf.iv c0_i32_330 c1_i32_332 k0_t3
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c256_984 : Index := 256#32
  ![v795.toNat, 0, 256]
def k0_off26 (k0_t3 : Fin k0_t3_loop.trips) (c1_i32_986 : BitVec 32) : Fin 3 → Nat :=
  let c0_i32_330 : BitVec 32 := 0#32
  let c1_i32_332 : BitVec 32 := 1#32
  let arg14 : BitVec 32 := Scf.iv c0_i32_330 c1_i32_332 k0_t3
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c256_988 : Index := 256#32
  ![v804.toNat, 1, 256]
def k0_mult5 (k0_t3 : Fin k0_t3_loop.trips) : BitVec 32 :=
  let c0_i32_330 : BitVec 32 := 0#32
  let c1_i32_332 : BitVec 32 := 1#32
  let arg14 : BitVec 32 := Scf.iv c0_i32_330 c1_i32_332 k0_t3
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off27 (k0_t3 : Fin k0_t3_loop.trips) (c0_i32_1139 : BitVec 32) : Fin 2 → Nat :=
  let c0_i32_330 : BitVec 32 := 0#32
  let c1_i32_332 : BitVec 32 := 1#32
  let arg14 : BitVec 32 := Scf.iv c0_i32_330 c1_i32_332 k0_t3
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c256_1140 : Index := 256#32
  ![v1217.toNat, 256]
def k0_mult6 (k0_t3 : Fin k0_t3_loop.trips) : BitVec 32 :=
  let c0_i32_330 : BitVec 32 := 0#32
  let c1_i32_332 : BitVec 32 := 1#32
  let arg14 : BitVec 32 := Scf.iv c0_i32_330 c1_i32_332 k0_t3
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t4_loop : Scf.Loop 32 :=
  let c0_i32_449 : BitVec 32 := 0#32
  let c32_i32_450 : BitVec 32 := 32#32
  let v355 : BitVec 32 := Scalar.addi c0_i32_449 c32_i32_450
  let c1_i32_451 : BitVec 32 := 1#32
  ⟨c0_i32_449, v355, c1_i32_451⟩
def k0_off28 (k0_t4 : Fin k0_t4_loop.trips) (c0_i32_958 : BitVec 32) : Fin 3 → Nat :=
  let c0_i32_449 : BitVec 32 := 0#32
  let c1_i32_451 : BitVec 32 := 1#32
  let arg14 : BitVec 32 := Scf.iv c0_i32_449 c1_i32_451 k0_t4
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c384_960 : Index := 384#32
  ![v741.toNat, 2, 384]
def k0_off29 (k0_t4 : Fin k0_t4_loop.trips) (c0_i32_962 : BitVec 32) : Fin 3 → Nat :=
  let c0_i32_449 : BitVec 32 := 0#32
  let c1_i32_451 : BitVec 32 := 1#32
  let arg14 : BitVec 32 := Scf.iv c0_i32_449 c1_i32_451 k0_t4
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c384_964 : Index := 384#32
  ![v750.toNat, 3, 384]
def k0_off30 (k0_t4 : Fin k0_t4_loop.trips) (c0_i32_966 : BitVec 32) : Fin 3 → Nat :=
  let c0_i32_449 : BitVec 32 := 0#32
  let c1_i32_451 : BitVec 32 := 1#32
  let arg14 : BitVec 32 := Scf.iv c0_i32_449 c1_i32_451 k0_t4
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c384_968 : Index := 384#32
  ![v759.toNat, 4, 384]
def k0_off31 (k0_t4 : Fin k0_t4_loop.trips) (c0_i32_970 : BitVec 32) : Fin 3 → Nat :=
  let c0_i32_449 : BitVec 32 := 0#32
  let c1_i32_451 : BitVec 32 := 1#32
  let arg14 : BitVec 32 := Scf.iv c0_i32_449 c1_i32_451 k0_t4
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c384_972 : Index := 384#32
  ![v768.toNat, 5, 384]
def k0_off32 (k0_t4 : Fin k0_t4_loop.trips) (c0_i32_974 : BitVec 32) : Fin 3 → Nat :=
  let c0_i32_449 : BitVec 32 := 0#32
  let c1_i32_451 : BitVec 32 := 1#32
  let arg14 : BitVec 32 := Scf.iv c0_i32_449 c1_i32_451 k0_t4
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c384_976 : Index := 384#32
  ![v777.toNat, 6, 384]
def k0_off33 (k0_t4 : Fin k0_t4_loop.trips) (c0_i32_978 : BitVec 32) : Fin 3 → Nat :=
  let c0_i32_449 : BitVec 32 := 0#32
  let c1_i32_451 : BitVec 32 := 1#32
  let arg14 : BitVec 32 := Scf.iv c0_i32_449 c1_i32_451 k0_t4
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c384_980 : Index := 384#32
  ![v786.toNat, 7, 384]
def k0_off34 (k0_t4 : Fin k0_t4_loop.trips) (c1_i32_982 : BitVec 32) : Fin 3 → Nat :=
  let c0_i32_449 : BitVec 32 := 0#32
  let c1_i32_451 : BitVec 32 := 1#32
  let arg14 : BitVec 32 := Scf.iv c0_i32_449 c1_i32_451 k0_t4
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c384_984 : Index := 384#32
  ![v795.toNat, 0, 384]
def k0_off35 (k0_t4 : Fin k0_t4_loop.trips) (c1_i32_986 : BitVec 32) : Fin 3 → Nat :=
  let c0_i32_449 : BitVec 32 := 0#32
  let c1_i32_451 : BitVec 32 := 1#32
  let arg14 : BitVec 32 := Scf.iv c0_i32_449 c1_i32_451 k0_t4
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c384_988 : Index := 384#32
  ![v804.toNat, 1, 384]
def k0_mult7 (k0_t4 : Fin k0_t4_loop.trips) : BitVec 32 :=
  let c0_i32_449 : BitVec 32 := 0#32
  let c1_i32_451 : BitVec 32 := 1#32
  let arg14 : BitVec 32 := Scf.iv c0_i32_449 c1_i32_451 k0_t4
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off36 (k0_t4 : Fin k0_t4_loop.trips) (c0_i32_1139 : BitVec 32) : Fin 2 → Nat :=
  let c0_i32_449 : BitVec 32 := 0#32
  let c1_i32_451 : BitVec 32 := 1#32
  let arg14 : BitVec 32 := Scf.iv c0_i32_449 c1_i32_451 k0_t4
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c384_1140 : Index := 384#32
  ![v1217.toNat, 384]
def k0_mult8 (k0_t4 : Fin k0_t4_loop.trips) : BitVec 32 :=
  let c0_i32_449 : BitVec 32 := 0#32
  let c1_i32_451 : BitVec 32 := 1#32
  let arg14 : BitVec 32 := Scf.iv c0_i32_449 c1_i32_451 k0_t4
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t5_loop : Scf.Loop 32 :=
  let c0_i32_568 : BitVec 32 := 0#32
  let c32_i32_569 : BitVec 32 := 32#32
  let v436 : BitVec 32 := Scalar.addi c0_i32_568 c32_i32_569
  let c1_i32_570 : BitVec 32 := 1#32
  ⟨c0_i32_568, v436, c1_i32_570⟩
def k0_off37 (k0_t5 : Fin k0_t5_loop.trips) (c0_i32_958 : BitVec 32) : Fin 3 → Nat :=
  let c0_i32_568 : BitVec 32 := 0#32
  let c1_i32_570 : BitVec 32 := 1#32
  let arg14 : BitVec 32 := Scf.iv c0_i32_568 c1_i32_570 k0_t5
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c512_960 : Index := 512#32
  ![v741.toNat, 2, 512]
def k0_off38 (k0_t5 : Fin k0_t5_loop.trips) (c0_i32_962 : BitVec 32) : Fin 3 → Nat :=
  let c0_i32_568 : BitVec 32 := 0#32
  let c1_i32_570 : BitVec 32 := 1#32
  let arg14 : BitVec 32 := Scf.iv c0_i32_568 c1_i32_570 k0_t5
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c512_964 : Index := 512#32
  ![v750.toNat, 3, 512]
def k0_off39 (k0_t5 : Fin k0_t5_loop.trips) (c0_i32_966 : BitVec 32) : Fin 3 → Nat :=
  let c0_i32_568 : BitVec 32 := 0#32
  let c1_i32_570 : BitVec 32 := 1#32
  let arg14 : BitVec 32 := Scf.iv c0_i32_568 c1_i32_570 k0_t5
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c512_968 : Index := 512#32
  ![v759.toNat, 4, 512]
def k0_off40 (k0_t5 : Fin k0_t5_loop.trips) (c0_i32_970 : BitVec 32) : Fin 3 → Nat :=
  let c0_i32_568 : BitVec 32 := 0#32
  let c1_i32_570 : BitVec 32 := 1#32
  let arg14 : BitVec 32 := Scf.iv c0_i32_568 c1_i32_570 k0_t5
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c512_972 : Index := 512#32
  ![v768.toNat, 5, 512]
def k0_off41 (k0_t5 : Fin k0_t5_loop.trips) (c0_i32_974 : BitVec 32) : Fin 3 → Nat :=
  let c0_i32_568 : BitVec 32 := 0#32
  let c1_i32_570 : BitVec 32 := 1#32
  let arg14 : BitVec 32 := Scf.iv c0_i32_568 c1_i32_570 k0_t5
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c512_976 : Index := 512#32
  ![v777.toNat, 6, 512]
def k0_off42 (k0_t5 : Fin k0_t5_loop.trips) (c0_i32_978 : BitVec 32) : Fin 3 → Nat :=
  let c0_i32_568 : BitVec 32 := 0#32
  let c1_i32_570 : BitVec 32 := 1#32
  let arg14 : BitVec 32 := Scf.iv c0_i32_568 c1_i32_570 k0_t5
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c512_980 : Index := 512#32
  ![v786.toNat, 7, 512]
def k0_off43 (k0_t5 : Fin k0_t5_loop.trips) (c1_i32_982 : BitVec 32) : Fin 3 → Nat :=
  let c0_i32_568 : BitVec 32 := 0#32
  let c1_i32_570 : BitVec 32 := 1#32
  let arg14 : BitVec 32 := Scf.iv c0_i32_568 c1_i32_570 k0_t5
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c512_984 : Index := 512#32
  ![v795.toNat, 0, 512]
def k0_off44 (k0_t5 : Fin k0_t5_loop.trips) (c1_i32_986 : BitVec 32) : Fin 3 → Nat :=
  let c0_i32_568 : BitVec 32 := 0#32
  let c1_i32_570 : BitVec 32 := 1#32
  let arg14 : BitVec 32 := Scf.iv c0_i32_568 c1_i32_570 k0_t5
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c512_988 : Index := 512#32
  ![v804.toNat, 1, 512]
def k0_mult9 (k0_t5 : Fin k0_t5_loop.trips) : BitVec 32 :=
  let c0_i32_568 : BitVec 32 := 0#32
  let c1_i32_570 : BitVec 32 := 1#32
  let arg14 : BitVec 32 := Scf.iv c0_i32_568 c1_i32_570 k0_t5
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off45 (k0_t5 : Fin k0_t5_loop.trips) (c0_i32_1139 : BitVec 32) : Fin 2 → Nat :=
  let c0_i32_568 : BitVec 32 := 0#32
  let c1_i32_570 : BitVec 32 := 1#32
  let arg14 : BitVec 32 := Scf.iv c0_i32_568 c1_i32_570 k0_t5
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c512_1140 : Index := 512#32
  ![v1217.toNat, 512]
def k0_mult10 (k0_t5 : Fin k0_t5_loop.trips) : BitVec 32 :=
  let c0_i32_568 : BitVec 32 := 0#32
  let c1_i32_570 : BitVec 32 := 1#32
  let arg14 : BitVec 32 := Scf.iv c0_i32_568 c1_i32_570 k0_t5
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t6_loop : Scf.Loop 32 :=
  let c0_i32_687 : BitVec 32 := 0#32
  let c32_i32_688 : BitVec 32 := 32#32
  let v517 : BitVec 32 := Scalar.addi c0_i32_687 c32_i32_688
  let c1_i32_689 : BitVec 32 := 1#32
  ⟨c0_i32_687, v517, c1_i32_689⟩
def k0_off46 (k0_t6 : Fin k0_t6_loop.trips) (c0_i32_958 : BitVec 32) : Fin 3 → Nat :=
  let c0_i32_687 : BitVec 32 := 0#32
  let c1_i32_689 : BitVec 32 := 1#32
  let arg14 : BitVec 32 := Scf.iv c0_i32_687 c1_i32_689 k0_t6
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c640_960 : Index := 640#32
  ![v741.toNat, 2, 640]
def k0_off47 (k0_t6 : Fin k0_t6_loop.trips) (c0_i32_962 : BitVec 32) : Fin 3 → Nat :=
  let c0_i32_687 : BitVec 32 := 0#32
  let c1_i32_689 : BitVec 32 := 1#32
  let arg14 : BitVec 32 := Scf.iv c0_i32_687 c1_i32_689 k0_t6
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c640_964 : Index := 640#32
  ![v750.toNat, 3, 640]
def k0_off48 (k0_t6 : Fin k0_t6_loop.trips) (c0_i32_966 : BitVec 32) : Fin 3 → Nat :=
  let c0_i32_687 : BitVec 32 := 0#32
  let c1_i32_689 : BitVec 32 := 1#32
  let arg14 : BitVec 32 := Scf.iv c0_i32_687 c1_i32_689 k0_t6
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c640_968 : Index := 640#32
  ![v759.toNat, 4, 640]
def k0_off49 (k0_t6 : Fin k0_t6_loop.trips) (c0_i32_970 : BitVec 32) : Fin 3 → Nat :=
  let c0_i32_687 : BitVec 32 := 0#32
  let c1_i32_689 : BitVec 32 := 1#32
  let arg14 : BitVec 32 := Scf.iv c0_i32_687 c1_i32_689 k0_t6
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c640_972 : Index := 640#32
  ![v768.toNat, 5, 640]
def k0_off50 (k0_t6 : Fin k0_t6_loop.trips) (c0_i32_974 : BitVec 32) : Fin 3 → Nat :=
  let c0_i32_687 : BitVec 32 := 0#32
  let c1_i32_689 : BitVec 32 := 1#32
  let arg14 : BitVec 32 := Scf.iv c0_i32_687 c1_i32_689 k0_t6
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c640_976 : Index := 640#32
  ![v777.toNat, 6, 640]
def k0_off51 (k0_t6 : Fin k0_t6_loop.trips) (c0_i32_978 : BitVec 32) : Fin 3 → Nat :=
  let c0_i32_687 : BitVec 32 := 0#32
  let c1_i32_689 : BitVec 32 := 1#32
  let arg14 : BitVec 32 := Scf.iv c0_i32_687 c1_i32_689 k0_t6
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c640_980 : Index := 640#32
  ![v786.toNat, 7, 640]
def k0_off52 (k0_t6 : Fin k0_t6_loop.trips) (c1_i32_982 : BitVec 32) : Fin 3 → Nat :=
  let c0_i32_687 : BitVec 32 := 0#32
  let c1_i32_689 : BitVec 32 := 1#32
  let arg14 : BitVec 32 := Scf.iv c0_i32_687 c1_i32_689 k0_t6
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c640_984 : Index := 640#32
  ![v795.toNat, 0, 640]
def k0_off53 (k0_t6 : Fin k0_t6_loop.trips) (c1_i32_986 : BitVec 32) : Fin 3 → Nat :=
  let c0_i32_687 : BitVec 32 := 0#32
  let c1_i32_689 : BitVec 32 := 1#32
  let arg14 : BitVec 32 := Scf.iv c0_i32_687 c1_i32_689 k0_t6
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c640_988 : Index := 640#32
  ![v804.toNat, 1, 640]
def k0_mult11 (k0_t6 : Fin k0_t6_loop.trips) : BitVec 32 :=
  let c0_i32_687 : BitVec 32 := 0#32
  let c1_i32_689 : BitVec 32 := 1#32
  let arg14 : BitVec 32 := Scf.iv c0_i32_687 c1_i32_689 k0_t6
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off54 (k0_t6 : Fin k0_t6_loop.trips) (c0_i32_1139 : BitVec 32) : Fin 2 → Nat :=
  let c0_i32_687 : BitVec 32 := 0#32
  let c1_i32_689 : BitVec 32 := 1#32
  let arg14 : BitVec 32 := Scf.iv c0_i32_687 c1_i32_689 k0_t6
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c640_1140 : Index := 640#32
  ![v1217.toNat, 640]
def k0_mult12 (k0_t6 : Fin k0_t6_loop.trips) : BitVec 32 :=
  let c0_i32_687 : BitVec 32 := 0#32
  let c1_i32_689 : BitVec 32 := 1#32
  let arg14 : BitVec 32 := Scf.iv c0_i32_687 c1_i32_689 k0_t6
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t7_loop : Scf.Loop 32 :=
  let c0_i32_806 : BitVec 32 := 0#32
  let c32_i32_807 : BitVec 32 := 32#32
  let v598 : BitVec 32 := Scalar.addi c0_i32_806 c32_i32_807
  let c1_i32_808 : BitVec 32 := 1#32
  ⟨c0_i32_806, v598, c1_i32_808⟩
def k0_off55 (k0_t7 : Fin k0_t7_loop.trips) (c0_i32_958 : BitVec 32) : Fin 3 → Nat :=
  let c0_i32_806 : BitVec 32 := 0#32
  let c1_i32_808 : BitVec 32 := 1#32
  let arg14 : BitVec 32 := Scf.iv c0_i32_806 c1_i32_808 k0_t7
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c768_960 : Index := 768#32
  ![v741.toNat, 2, 768]
def k0_off56 (k0_t7 : Fin k0_t7_loop.trips) (c0_i32_962 : BitVec 32) : Fin 3 → Nat :=
  let c0_i32_806 : BitVec 32 := 0#32
  let c1_i32_808 : BitVec 32 := 1#32
  let arg14 : BitVec 32 := Scf.iv c0_i32_806 c1_i32_808 k0_t7
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c768_964 : Index := 768#32
  ![v750.toNat, 3, 768]
def k0_off57 (k0_t7 : Fin k0_t7_loop.trips) (c0_i32_966 : BitVec 32) : Fin 3 → Nat :=
  let c0_i32_806 : BitVec 32 := 0#32
  let c1_i32_808 : BitVec 32 := 1#32
  let arg14 : BitVec 32 := Scf.iv c0_i32_806 c1_i32_808 k0_t7
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c768_968 : Index := 768#32
  ![v759.toNat, 4, 768]
def k0_off58 (k0_t7 : Fin k0_t7_loop.trips) (c0_i32_970 : BitVec 32) : Fin 3 → Nat :=
  let c0_i32_806 : BitVec 32 := 0#32
  let c1_i32_808 : BitVec 32 := 1#32
  let arg14 : BitVec 32 := Scf.iv c0_i32_806 c1_i32_808 k0_t7
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c768_972 : Index := 768#32
  ![v768.toNat, 5, 768]
def k0_off59 (k0_t7 : Fin k0_t7_loop.trips) (c0_i32_974 : BitVec 32) : Fin 3 → Nat :=
  let c0_i32_806 : BitVec 32 := 0#32
  let c1_i32_808 : BitVec 32 := 1#32
  let arg14 : BitVec 32 := Scf.iv c0_i32_806 c1_i32_808 k0_t7
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c768_976 : Index := 768#32
  ![v777.toNat, 6, 768]
def k0_off60 (k0_t7 : Fin k0_t7_loop.trips) (c0_i32_978 : BitVec 32) : Fin 3 → Nat :=
  let c0_i32_806 : BitVec 32 := 0#32
  let c1_i32_808 : BitVec 32 := 1#32
  let arg14 : BitVec 32 := Scf.iv c0_i32_806 c1_i32_808 k0_t7
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c768_980 : Index := 768#32
  ![v786.toNat, 7, 768]
def k0_off61 (k0_t7 : Fin k0_t7_loop.trips) (c1_i32_982 : BitVec 32) : Fin 3 → Nat :=
  let c0_i32_806 : BitVec 32 := 0#32
  let c1_i32_808 : BitVec 32 := 1#32
  let arg14 : BitVec 32 := Scf.iv c0_i32_806 c1_i32_808 k0_t7
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c768_984 : Index := 768#32
  ![v795.toNat, 0, 768]
def k0_off62 (k0_t7 : Fin k0_t7_loop.trips) (c1_i32_986 : BitVec 32) : Fin 3 → Nat :=
  let c0_i32_806 : BitVec 32 := 0#32
  let c1_i32_808 : BitVec 32 := 1#32
  let arg14 : BitVec 32 := Scf.iv c0_i32_806 c1_i32_808 k0_t7
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c768_988 : Index := 768#32
  ![v804.toNat, 1, 768]
def k0_mult13 (k0_t7 : Fin k0_t7_loop.trips) : BitVec 32 :=
  let c0_i32_806 : BitVec 32 := 0#32
  let c1_i32_808 : BitVec 32 := 1#32
  let arg14 : BitVec 32 := Scf.iv c0_i32_806 c1_i32_808 k0_t7
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off63 (k0_t7 : Fin k0_t7_loop.trips) (c0_i32_1139 : BitVec 32) : Fin 2 → Nat :=
  let c0_i32_806 : BitVec 32 := 0#32
  let c1_i32_808 : BitVec 32 := 1#32
  let arg14 : BitVec 32 := Scf.iv c0_i32_806 c1_i32_808 k0_t7
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c768_1140 : Index := 768#32
  ![v1217.toNat, 768]
def k0_mult14 (k0_t7 : Fin k0_t7_loop.trips) : BitVec 32 :=
  let c0_i32_806 : BitVec 32 := 0#32
  let c1_i32_808 : BitVec 32 := 1#32
  let arg14 : BitVec 32 := Scf.iv c0_i32_806 c1_i32_808 k0_t7
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
@[reducible] def k0_t8_loop : Scf.Loop 32 :=
  let c0_i32_925 : BitVec 32 := 0#32
  let c32_i32_926 : BitVec 32 := 32#32
  let v679 : BitVec 32 := Scalar.addi c0_i32_925 c32_i32_926
  let c1_i32_927 : BitVec 32 := 1#32
  ⟨c0_i32_925, v679, c1_i32_927⟩
def k0_off64 (k0_t8 : Fin k0_t8_loop.trips) (c0_i32_958 : BitVec 32) : Fin 3 → Nat :=
  let c0_i32_925 : BitVec 32 := 0#32
  let c1_i32_927 : BitVec 32 := 1#32
  let arg14 : BitVec 32 := Scf.iv c0_i32_925 c1_i32_927 k0_t8
  let c2_i32 : BitVec 32 := 2#32
  let v739 : BitVec 32 := Scalar.muli arg14 c2_i32
  let v740 : BitVec 32 := Scalar.addi v739 c0_i32_958
  let v741 : Index := Scalar.indexCast v740
  let c2_959 : Index := 2#32
  let c896_960 : Index := 896#32
  ![v741.toNat, 2, 896]
def k0_off65 (k0_t8 : Fin k0_t8_loop.trips) (c0_i32_962 : BitVec 32) : Fin 3 → Nat :=
  let c0_i32_925 : BitVec 32 := 0#32
  let c1_i32_927 : BitVec 32 := 1#32
  let arg14 : BitVec 32 := Scf.iv c0_i32_925 c1_i32_927 k0_t8
  let c2_i32_961 : BitVec 32 := 2#32
  let v748 : BitVec 32 := Scalar.muli arg14 c2_i32_961
  let v749 : BitVec 32 := Scalar.addi v748 c0_i32_962
  let v750 : Index := Scalar.indexCast v749
  let c3_963 : Index := 3#32
  let c896_964 : Index := 896#32
  ![v750.toNat, 3, 896]
def k0_off66 (k0_t8 : Fin k0_t8_loop.trips) (c0_i32_966 : BitVec 32) : Fin 3 → Nat :=
  let c0_i32_925 : BitVec 32 := 0#32
  let c1_i32_927 : BitVec 32 := 1#32
  let arg14 : BitVec 32 := Scf.iv c0_i32_925 c1_i32_927 k0_t8
  let c2_i32_965 : BitVec 32 := 2#32
  let v757 : BitVec 32 := Scalar.muli arg14 c2_i32_965
  let v758 : BitVec 32 := Scalar.addi v757 c0_i32_966
  let v759 : Index := Scalar.indexCast v758
  let c4_967 : Index := 4#32
  let c896_968 : Index := 896#32
  ![v759.toNat, 4, 896]
def k0_off67 (k0_t8 : Fin k0_t8_loop.trips) (c0_i32_970 : BitVec 32) : Fin 3 → Nat :=
  let c0_i32_925 : BitVec 32 := 0#32
  let c1_i32_927 : BitVec 32 := 1#32
  let arg14 : BitVec 32 := Scf.iv c0_i32_925 c1_i32_927 k0_t8
  let c2_i32_969 : BitVec 32 := 2#32
  let v766 : BitVec 32 := Scalar.muli arg14 c2_i32_969
  let v767 : BitVec 32 := Scalar.addi v766 c0_i32_970
  let v768 : Index := Scalar.indexCast v767
  let c5_971 : Index := 5#32
  let c896_972 : Index := 896#32
  ![v768.toNat, 5, 896]
def k0_off68 (k0_t8 : Fin k0_t8_loop.trips) (c0_i32_974 : BitVec 32) : Fin 3 → Nat :=
  let c0_i32_925 : BitVec 32 := 0#32
  let c1_i32_927 : BitVec 32 := 1#32
  let arg14 : BitVec 32 := Scf.iv c0_i32_925 c1_i32_927 k0_t8
  let c2_i32_973 : BitVec 32 := 2#32
  let v775 : BitVec 32 := Scalar.muli arg14 c2_i32_973
  let v776 : BitVec 32 := Scalar.addi v775 c0_i32_974
  let v777 : Index := Scalar.indexCast v776
  let c6_975 : Index := 6#32
  let c896_976 : Index := 896#32
  ![v777.toNat, 6, 896]
def k0_off69 (k0_t8 : Fin k0_t8_loop.trips) (c0_i32_978 : BitVec 32) : Fin 3 → Nat :=
  let c0_i32_925 : BitVec 32 := 0#32
  let c1_i32_927 : BitVec 32 := 1#32
  let arg14 : BitVec 32 := Scf.iv c0_i32_925 c1_i32_927 k0_t8
  let c2_i32_977 : BitVec 32 := 2#32
  let v784 : BitVec 32 := Scalar.muli arg14 c2_i32_977
  let v785 : BitVec 32 := Scalar.addi v784 c0_i32_978
  let v786 : Index := Scalar.indexCast v785
  let c7_979 : Index := 7#32
  let c896_980 : Index := 896#32
  ![v786.toNat, 7, 896]
def k0_off70 (k0_t8 : Fin k0_t8_loop.trips) (c1_i32_982 : BitVec 32) : Fin 3 → Nat :=
  let c0_i32_925 : BitVec 32 := 0#32
  let c1_i32_927 : BitVec 32 := 1#32
  let arg14 : BitVec 32 := Scf.iv c0_i32_925 c1_i32_927 k0_t8
  let c2_i32_981 : BitVec 32 := 2#32
  let v793 : BitVec 32 := Scalar.muli arg14 c2_i32_981
  let v794 : BitVec 32 := Scalar.addi v793 c1_i32_982
  let v795 : Index := Scalar.indexCast v794
  let c0_983 : Index := 0#32
  let c896_984 : Index := 896#32
  ![v795.toNat, 0, 896]
def k0_off71 (k0_t8 : Fin k0_t8_loop.trips) (c1_i32_986 : BitVec 32) : Fin 3 → Nat :=
  let c0_i32_925 : BitVec 32 := 0#32
  let c1_i32_927 : BitVec 32 := 1#32
  let arg14 : BitVec 32 := Scf.iv c0_i32_925 c1_i32_927 k0_t8
  let c2_i32_985 : BitVec 32 := 2#32
  let v802 : BitVec 32 := Scalar.muli arg14 c2_i32_985
  let v803 : BitVec 32 := Scalar.addi v802 c1_i32_986
  let v804 : Index := Scalar.indexCast v803
  let c1_987 : Index := 1#32
  let c896_988 : Index := 896#32
  ![v804.toNat, 1, 896]
def k0_mult15 (k0_t8 : Fin k0_t8_loop.trips) : BitVec 32 :=
  let c0_i32_925 : BitVec 32 := 0#32
  let c1_i32_927 : BitVec 32 := 1#32
  let arg14 : BitVec 32 := Scf.iv c0_i32_925 c1_i32_927 k0_t8
  let c2_i32_1138 : BitVec 32 := 2#32
  let v1213 : BitVec 32 := Scalar.muli arg14 c2_i32_1138
  let c0_i32_1139 : BitVec 32 := 0#32
  let v1214 : BitVec 32 := Scalar.addi v1213 c0_i32_1139
  let c8_i32 : BitVec 32 := 8#32
  let v1215 : BitVec 32 := Scalar.muli v1214 c8_i32
  v1215
def k0_off72 (k0_t8 : Fin k0_t8_loop.trips) (c0_i32_1139 : BitVec 32) : Fin 2 → Nat :=
  let c0_i32_925 : BitVec 32 := 0#32
  let c1_i32_927 : BitVec 32 := 1#32
  let arg14 : BitVec 32 := Scf.iv c0_i32_925 c1_i32_927 k0_t8
  let c2_i32_1138 : BitVec 32 := 2#32
  let v1213 : BitVec 32 := Scalar.muli arg14 c2_i32_1138
  let v1214 : BitVec 32 := Scalar.addi v1213 c0_i32_1139
  let c8_i32 : BitVec 32 := 8#32
  let v1215 : BitVec 32 := Scalar.muli v1214 c8_i32
  let v1216 : BitVec 32 := v1215
  let v1217 : Index := Scalar.indexCast v1216
  let c896_1140 : Index := 896#32
  ![v1217.toNat, 896]
def k0_mult16 (k0_t8 : Fin k0_t8_loop.trips) : BitVec 32 :=
  let c0_i32_925 : BitVec 32 := 0#32
  let c1_i32_927 : BitVec 32 := 1#32
  let arg14 : BitVec 32 := Scf.iv c0_i32_925 c1_i32_927 k0_t8
  let c2_i32_1141 : BitVec 32 := 2#32
  let v1221 : BitVec 32 := Scalar.muli arg14 c2_i32_1141
  let c1_i32_1142 : BitVec 32 := 1#32
  let v1222 : BitVec 32 := Scalar.addi v1221 c1_i32_1142
  let c8_i32_1143 : BitVec 32 := 8#32
  let v1223 : BitVec 32 := Scalar.muli v1222 c8_i32_1143
  v1223
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S38x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OddRefIdeal.lean ====
abbrev S16x2048x1024 : Shape := ⟨3, ![16, 2048, 1024]⟩
abbrev S1024 : Shape := ⟨1, ![1024]⟩
abbrev S1024x3072 : Shape := ⟨2, ![1024, 3072]⟩
abbrev S31x1024 : Shape := ⟨2, ![31, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2078x1024 : Shape := ⟨3, ![16, 2078, 1024]⟩
abbrev S1x1024 : Shape := ⟨2, ![1, 1024]⟩

abbrev nBuf : Space → Nat
  | .hbm => 327
  | .vmem => 0
  | .smem => 0
  | _ => 0

abbrev hbmTy0_0 (i : Nat) : BufTy := match i % 128 with
  | 0 => ⟨S16x2048x1024, .f32⟩
  | 1 => ⟨S1024, .f32⟩
  | 2 => ⟨S1024x3072, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x3072, .f32⟩
  | 26 => ⟨S16x2048x1024, .f32⟩
  | 27 => ⟨S16x2048x1024, .f32⟩
  | 28 => ⟨S16x2048x1024, .f32⟩
  | 29 => ⟨S16x2048x1024, .f32⟩
  | 30 => ⟨S16x2048x1024, .f32⟩
  | 31 => ⟨S_, .f32⟩
  | 32 => ⟨S16x2048x1024, .f32⟩
  | 33 => ⟨S16x2048x1024, .f32⟩
  | 34 => ⟨S_, .f32⟩
  | 35 => ⟨S16x2048x1024, .f32⟩
  | 36 => ⟨S16x2048x1024, .f32⟩
  | 37 => ⟨S16x2048x1024, .f32⟩
  | 38 => ⟨S_, .i32⟩
  | 39 => ⟨S_, .f32⟩
  | 40 => ⟨S16x2078x1024, .f32⟩
  | 41 => ⟨S16x2048x1024, .f32⟩
  | 42 => ⟨S1x1024, .f32⟩
  | 43 => ⟨S1024, .f32⟩
  | 44 => ⟨S1x1x1024, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S16x2048x1024, .f32⟩
  | 51 => ⟨S1x1024, .f32⟩
  | 52 => ⟨S1024, .f32⟩
  | 53 => ⟨S1x1x1024, .f32⟩
  | 54 => ⟨S16x2048x1024, .f32⟩
  | 55 => ⟨S16x2048x1024, .f32⟩
  | 56 => ⟨S16x2048x1024, .f32⟩
  | 57 => ⟨S16x2048x1024, .f32⟩
  | 58 => ⟨S1x1024, .f32⟩
  | 59 => ⟨S1024, .f32⟩
  | 60 => ⟨S1x1x1024, .f32⟩
  | 61 => ⟨S16x2048x1024, .f32⟩
  | 62 => ⟨S16x2048x1024, .f32⟩
  | 63 => ⟨S16x2048x1024, .f32⟩
  | 64 => ⟨S16x2048x1024, .f32⟩
  | 65 => ⟨S1x1024, .f32⟩
  | 66 => ⟨S1024, .f32⟩
  | 67 => ⟨S1x1x1024, .f32⟩
  | 68 => ⟨S16x2048x1024, .f32⟩
  | 69 => ⟨S16x2048x1024, .f32⟩
  | 70 => ⟨S16x2048x1024, .f32⟩
  | 71 => ⟨S16x2048x1024, .f32⟩
  | 72 => ⟨S1x1024, .f32⟩
  | 73 => ⟨S1024, .f32⟩
  | 74 => ⟨S1x1x1024, .f32⟩
  | 75 => ⟨S16x2048x1024, .f32⟩
  | 76 => ⟨S16x2048x1024, .f32⟩
  | 77 => ⟨S16x2048x1024, .f32⟩
  | 78 => ⟨S16x2048x1024, .f32⟩
  | 79 => ⟨S1x1024, .f32⟩
  | 80 => ⟨S1024, .f32⟩
  | 81 => ⟨S1x1x1024, .f32⟩
  | 82 => ⟨S16x2048x1024, .f32⟩
  | 83 => ⟨S16x2048x1024, .f32⟩
  | 84 => ⟨S16x2048x1024, .f32⟩
  | 85 => ⟨S16x2048x1024, .f32⟩
  | 86 => ⟨S1x1024, .f32⟩
  | 87 => ⟨S1024, .f32⟩
  | 88 => ⟨S1x1x1024, .f32⟩
  | 89 => ⟨S16x2048x1024, .f32⟩
  | 90 => ⟨S16x2048x1024, .f32⟩
  | 91 => ⟨S16x2048x1024, .f32⟩
  | 92 => ⟨S16x2048x1024, .f32⟩
  | 93 => ⟨S1x1024, .f32⟩
  | 94 => ⟨S1024, .f32⟩
  | 95 => ⟨S1x1x1024, .f32⟩
  | 96 => ⟨S16x2048x1024, .f32⟩
  | 97 => ⟨S16x2048x1024, .f32⟩
  | 98 => ⟨S16x2048x1024, .f32⟩
  | 99 => ⟨S16x2048x1024, .f32⟩
  | 100 => ⟨S1x1024, .f32⟩
  | 101 => ⟨S1024, .f32⟩
  | 102 => ⟨S1x1x1024, .f32⟩
  | 103 => ⟨S16x2048x1024, .f32⟩
  | 104 => ⟨S16x2048x1024, .f32⟩
  | 105 => ⟨S16x2048x1024, .f32⟩
  | 106 => ⟨S16x2048x1024, .f32⟩
  | 107 => ⟨S1x1024, .f32⟩
  | 108 => ⟨S1024, .f32⟩
  | 109 => ⟨S1x1x1024, .f32⟩
  | 110 => ⟨S16x2048x1024, .f32⟩
  | 111 => ⟨S16x2048x1024, .f32⟩
  | 112 => ⟨S16x2048x1024, .f32⟩
  | 113 => ⟨S16x2048x1024, .f32⟩
  | 114 => ⟨S1x1024, .f32⟩
  | 115 => ⟨S1024, .f32⟩
  | 116 => ⟨S1x1x1024, .f32⟩
  | 117 => ⟨S16x2048x1024, .f32⟩
  | 118 => ⟨S16x2048x1024, .f32⟩
  | 119 => ⟨S16x2048x1024, .f32⟩
  | 120 => ⟨S16x2048x1024, .f32⟩
  | 121 => ⟨S1x1024, .f32⟩
  | 122 => ⟨S1024, .f32⟩
  | 123 => ⟨S1x1x1024, .f32⟩
  | 124 => ⟨S16x2048x1024, .f32⟩
  | 125 => ⟨S16x2048x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S16x2048x1024, .f32⟩
  | 4 => ⟨S16x2048x1024, .f32⟩
  | 5 => ⟨S16x2048x1024, .f32⟩
  | 6 => ⟨S16x2048x1024, .f32⟩
  | 7 => ⟨S1x1024, .f32⟩
  | 8 => ⟨S1024, .f32⟩
  | 9 => ⟨S1x1x1024, .f32⟩
  | 10 => ⟨S16x2048x1024, .f32⟩
  | 11 => ⟨S16x2048x1024, .f32⟩
  | 12 => ⟨S16x2048x1024, .f32⟩
  | 13 => ⟨S16x2048x1024, .f32⟩
  | 14 => ⟨S1x1024, .f32⟩
  | 15 => ⟨S1024, .f32⟩
  | 16 => ⟨S1x1x1024, .f32⟩
  | 17 => ⟨S16x2048x1024, .f32⟩
  | 18 => ⟨S16x2048x1024, .f32⟩
  | 19 => ⟨S16x2048x1024, .f32⟩
  | 20 => ⟨S16x2048x1024, .f32⟩
  | 21 => ⟨S1x1024, .f32⟩
  | 22 => ⟨S1024, .f32⟩
  | 23 => ⟨S1x1x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S1x1024, .f32⟩
  | 29 => ⟨S1024, .f32⟩
  | 30 => ⟨S1x1x1024, .f32⟩
  | 31 => ⟨S16x2048x1024, .f32⟩
  | 32 => ⟨S16x2048x1024, .f32⟩
  | 33 => ⟨S16x2048x1024, .f32⟩
  | 34 => ⟨S16x2048x1024, .f32⟩
  | 35 => ⟨S1x1024, .f32⟩
  | 36 => ⟨S1024, .f32⟩
  | 37 => ⟨S1x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S1x1024, .f32⟩
  | 43 => ⟨S1024, .f32⟩
  | 44 => ⟨S1x1x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S1x1024, .f32⟩
  | 50 => ⟨S1024, .f32⟩
  | 51 => ⟨S1x1x1024, .f32⟩
  | 52 => ⟨S16x2048x1024, .f32⟩
  | 53 => ⟨S16x2048x1024, .f32⟩
  | 54 => ⟨S16x2048x1024, .f32⟩
  | 55 => ⟨S16x2048x1024, .f32⟩
  | 56 => ⟨S1x1024, .f32⟩
  | 57 => ⟨S1024, .f32⟩
  | 58 => ⟨S1x1x1024, .f32⟩
  | 59 => ⟨S16x2048x1024, .f32⟩
  | 60 => ⟨S16x2048x1024, .f32⟩
  | 61 => ⟨S16x2048x1024, .f32⟩
  | 62 => ⟨S16x2048x1024, .f32⟩
  | 63 => ⟨S1x1024, .f32⟩
  | 64 => ⟨S1024, .f32⟩
  | 65 => ⟨S1x1x1024, .f32⟩
  | 66 => ⟨S16x2048x1024, .f32⟩
  | 67 => ⟨S16x2048x1024, .f32⟩
  | 68 => ⟨S16x2048x1024, .f32⟩
  | 69 => ⟨S16x2048x1024, .f32⟩
  | 70 => ⟨S1x1024, .f32⟩
  | 71 => ⟨S1024, .f32⟩
  | 72 => ⟨S1x1x1024, .f32⟩
  | 73 => ⟨S16x2048x1024, .f32⟩
  | 74 => ⟨S16x2048x1024, .f32⟩
  | 75 => ⟨S16x2048x1024, .f32⟩
  | 76 => ⟨S16x2048x1024, .f32⟩
  | 77 => ⟨S1x1024, .f32⟩
  | 78 => ⟨S1024, .f32⟩
  | 79 => ⟨S1x1x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S1x1024, .f32⟩
  | 85 => ⟨S1024, .f32⟩
  | 86 => ⟨S1x1x1024, .f32⟩
  | 87 => ⟨S16x2048x1024, .f32⟩
  | 88 => ⟨S16x2048x1024, .f32⟩
  | 89 => ⟨S16x2048x1024, .f32⟩
  | 90 => ⟨S16x2048x1024, .f32⟩
  | 91 => ⟨S1x1024, .f32⟩
  | 92 => ⟨S1024, .f32⟩
  | 93 => ⟨S1x1x1024, .f32⟩
  | 94 => ⟨S16x2048x1024, .f32⟩
  | 95 => ⟨S16x2048x1024, .f32⟩
  | 96 => ⟨S16x2048x1024, .f32⟩
  | 97 => ⟨S16x2048x1024, .f32⟩
  | 98 => ⟨S1x1024, .f32⟩
  | 99 => ⟨S1024, .f32⟩
  | 100 => ⟨S1x1x1024, .f32⟩
  | 101 => ⟨S16x2048x1024, .f32⟩
  | 102 => ⟨S16x2048x1024, .f32⟩
  | 103 => ⟨S16x2048x1024, .f32⟩
  | 104 => ⟨S16x2048x1024, .f32⟩
  | 105 => ⟨S1x1024, .f32⟩
  | 106 => ⟨S1024, .f32⟩
  | 107 => ⟨S1x1x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S1x1024, .f32⟩
  | 113 => ⟨S1024, .f32⟩
  | 114 => ⟨S1x1x1024, .f32⟩
  | 115 => ⟨S16x2048x1024, .f32⟩
  | 116 => ⟨S16x2048x1024, .f32⟩
  | 117 => ⟨S16x2048x1024, .f32⟩
  | 118 => ⟨S16x2048x1024, .f32⟩
  | 119 => ⟨S1x1024, .f32⟩
  | 120 => ⟨S1024, .f32⟩
  | 121 => ⟨S1x1x1024, .f32⟩
  | 122 => ⟨S16x2048x1024, .f32⟩
  | 123 => ⟨S16x2048x1024, .f32⟩
  | 124 => ⟨S16x2048x1024, .f32⟩
  | 125 => ⟨S16x2048x1024, .f32⟩
  | 126 => ⟨S1x1024, .f32⟩
  | 127 => ⟨S1024, .f32⟩
  | _ => ⟨S16x2048x1024, .f32⟩

abbrev hbmTy0_2 (i : Nat) : BufTy := match i % 128 with
  | 0 => ⟨S1x1x1024, .f32⟩
  | 1 => ⟨S16x2048x1024, .f32⟩
  | 2 => ⟨S16x2048x1024, .f32⟩
  | 3 => ⟨S16x2048x1024, .f32⟩
  | 4 => ⟨S1x1x1024, .f32⟩
  | 5 => ⟨S16x2048x1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S16x2048x1024, .f32⟩
  | 14 => ⟨S16x2048x1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S1x1x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S_, .f32⟩
  | 40 => ⟨S16x2048x1024, .f32⟩
  | 41 => ⟨S16x2048x1024, .f32⟩
  | 42 => ⟨S16x2048x1024, .f32⟩
  | 43 => ⟨S16x2048x1024, .f32⟩
  | 44 => ⟨S16x2048x1024, .f32⟩
  | 45 => ⟨S_, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S16x2048x1024, .f32⟩
  | 52 => ⟨S16x2048x1024, .f32⟩
  | 53 => ⟨S16x2048x1024, .f32⟩
  | 54 => ⟨S16x2048x1024, .f32⟩
  | 55 => ⟨S_, .f32⟩
  | 56 => ⟨S16x2048, .f32⟩
  | 57 => ⟨S16x2048x1, .f32⟩
  | 58 => ⟨S_, .f32⟩
  | 59 => ⟨S16x2048x1, .f32⟩
  | 60 => ⟨S16x2048x1, .f32⟩
  | 61 => ⟨S_, .f32⟩
  | 62 => ⟨S16x2048x1, .f32⟩
  | 63 => ⟨S16x2048x1, .f32⟩
  | 64 => ⟨S16x2048x1, .f32⟩
  | 65 => ⟨S16x2048x1024, .f32⟩
  | 66 => ⟨S16x2048x1024, .f32⟩
  | 67 => ⟨S1x1x1024, .f32⟩
  | 68 => ⟨S16x2048x1024, .f32⟩
  | 69 => ⟨S16x2048x1024, .f32⟩
  | 70 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_cst_5 : Ref sig .tc := ⟨.hbm, 263, rfl⟩
abbrev main_v246 : Ref sig .tc := ⟨.hbm, 264, rfl⟩
abbrev main_v247 : Ref sig .tc := ⟨.hbm, 265, rfl⟩
abbrev main_cst_6 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_cst_7 : Ref sig .tc := ⟨.hbm, 272, rfl⟩
abbrev main_v253 : Ref sig .tc := ⟨.hbm, 273, rfl⟩
abbrev main_v254 : Ref sig .tc := ⟨.hbm, 274, rfl⟩
abbrev main_cst_8 : Ref sig .tc := ⟨.hbm, 275, rfl⟩
abbrev main_v255 : Ref sig .tc := ⟨.hbm, 276, rfl⟩
abbrev main_v256 : Ref sig .tc := ⟨.hbm, 277, rfl⟩
abbrev main_cst_9 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_call1_v0 : Ref sig .tc := ⟨.hbm, 290, rfl⟩
abbrev main_call1_v1 : Ref sig .tc := ⟨.hbm, 291, rfl⟩
abbrev main_call1_cst : Ref sig .tc := ⟨.hbm, 292, rfl⟩
abbrev main_call1_v2 : Ref sig .tc := ⟨.hbm, 293, rfl⟩
abbrev main_call1_v3 : Ref sig .tc := ⟨.hbm, 294, rfl⟩
abbrev main_call1_cst_0 : Ref sig .tc := ⟨.hbm, 295, rfl⟩
abbrev main_call1_v4 : Ref sig .tc := ⟨.hbm, 296, rfl⟩
abbrev main_call1_v5 : Ref sig .tc := ⟨.hbm, 297, rfl⟩
abbrev main_v268 : Ref sig .tc := ⟨.hbm, 298, rfl⟩
abbrev main_call2_v0 : Ref sig .tc := ⟨.hbm, 299, rfl⟩
abbrev main_call2_v1 : Ref sig .tc := ⟨.hbm, 300, rfl⟩
abbrev main_call2_cst : Ref sig .tc := ⟨.hbm, 301, rfl⟩
abbrev main_call2_v2 : Ref sig .tc := ⟨.hbm, 302, rfl⟩
abbrev main_call2_v3 : Ref sig .tc := ⟨.hbm, 303, rfl⟩
abbrev main_call2_cst_0 : Ref sig .tc := ⟨.hbm, 304, rfl⟩
abbrev main_call2_v4 : Ref sig .tc := ⟨.hbm, 305, rfl⟩
abbrev main_call2_v5 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_cst_10 : Ref sig .tc := ⟨.hbm, 311, rfl⟩
abbrev main_v273 : Ref sig .tc := ⟨.hbm, 312, rfl⟩
abbrev main_v274 : Ref sig .tc := ⟨.hbm, 313, rfl⟩
abbrev main_cst_11 : Ref sig .tc := ⟨.hbm, 314, rfl⟩
abbrev main_v275 : Ref sig .tc := ⟨.hbm, 315, rfl⟩
abbrev main_v276 : Ref sig .tc := ⟨.hbm, 316, rfl⟩
abbrev main_cst_12 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩

abbrev nD : Nat := 1
abbrev τ : Topo := Topo.v7x

variable {F : FTy → Type} [FloatOps F]
-- ==== EvenIn.lean ====
abbrev S32768x1024 : Shape := ⟨2, ![32768, 1024]⟩
abbrev S1024 : Shape := ⟨1, ![1024]⟩
abbrev S1024x3352 : Shape := ⟨2, ![1024, 3352]⟩
abbrev S512 : Shape := ⟨1, ![512]⟩
abbrev S1024x1280 : Shape := ⟨2, ![1024, 1280]⟩
abbrev S1024x2048 : Shape := ⟨2, ![1024, 2048]⟩
abbrev S1024x24 : Shape := ⟨2, ![1024, 24]⟩
abbrev S_ : Shape := ⟨0, ![]⟩
abbrev S1024x104 : Shape := ⟨2, ![1024, 104]⟩
abbrev S1024x3456 : Shape := ⟨2, ![1024, 3456]⟩
abbrev S1x1024 : Shape := ⟨2, ![1, 1024]⟩
abbrev S1x512 : Shape := ⟨2, ![1, 512]⟩
abbrev S32768x512 : Shape := ⟨2, ![32768, 512]⟩
abbrev S32768x256 : Shape := ⟨2, ![32768, 256]⟩
abbrev S32768x128 : Shape := ⟨2, ![32768, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 22
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3352, .f32⟩
  | .hbm, ⟨3, _⟩ => ⟨S512, .f32⟩
  | .hbm, ⟨4, _⟩ => ⟨S512, .f32⟩
  | .hbm, ⟨5, _⟩ => ⟨S1024x1280, .f32⟩
  | .hbm, ⟨6, _⟩ => ⟨S1024x2048, .f32⟩
  | .hbm, ⟨7, _⟩ => ⟨S1024x24, .f32⟩
  | .hbm, ⟨8, _⟩ => ⟨S_, .f32⟩
  | .hbm, ⟨9, _⟩ => ⟨S1024x104, .f32⟩
  | .hbm, ⟨10, _⟩ => ⟨S1024x3456, .f32⟩
  | .hbm, ⟨11, _⟩ => ⟨S1024x3456, .bf16⟩
  | .hbm, ⟨12, _⟩ => ⟨S1x1024, .f32⟩
  | .hbm, ⟨13, _⟩ => ⟨S1x512, .f32⟩
  | .hbm, ⟨14, _⟩ => ⟨S1x512, .f32⟩
  | .hbm, ⟨15, _⟩ => ⟨S32768x512, .bf16⟩
  | .hbm, ⟨16, _⟩ => ⟨S32768x256, .bf16⟩
  | .hbm, ⟨17, _⟩ => ⟨S32768x512, .bf16⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvenInRefIdeal.lean ====
abbrev S32768x1024 : Shape := ⟨2, ![32768, 1024]⟩
abbrev S1024 : Shape := ⟨1, ![1024]⟩
abbrev S1024x3352 : Shape := ⟨2, ![1024, 3352]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3352 : Shape := ⟨2, ![32768, 3352]⟩
abbrev S32768x512 : Shape := ⟨2, ![32768, 512]⟩
abbrev S32768x128 : Shape := ⟨2, ![32768, 128]⟩
abbrev S32768x24 : Shape := ⟨2, ![32768, 24]⟩
abbrev S32768x256 : Shape := ⟨2, ![32768, 256]⟩
abbrev S1x512 : Shape := ⟨2, ![1, 512]⟩

abbrev nBuf : Space → Nat
  | .hbm => 136
  | .vmem => 0
  | .smem => 0
  | _ => 0

abbrev hbmTy0_0 (i : Nat) : BufTy := match i % 128 with
  | 0 => ⟨S32768x1024, .f32⟩
  | 1 => ⟨S1024, .f32⟩
  | 2 => ⟨S1024x3352, .f32⟩
  | 3 => ⟨S512, .f32⟩
  | 4 => ⟨S512, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x3352, .f32⟩
  | 22 => ⟨S32768x512, .f32⟩
  | 23 => ⟨S32768x128, .f32⟩
  | 24 => ⟨S32768x128, .f32⟩
  | 25 => ⟨S32768x128, .f32⟩
  | 26 => ⟨S32768x128, .f32⟩
  | 27 => ⟨S32768x128, .f32⟩
  | 28 => ⟨S32768x128, .f32⟩
  | 29 => ⟨S32768x24, .f32⟩
  | 30 => ⟨S32768x512, .f32⟩
  | 31 => ⟨S32768x512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S32768x256, .f32⟩
  | 38 => ⟨S32768x512, .f32⟩
  | 39 => ⟨S32768x512, .f32⟩
  | 40 => ⟨S32768x512, .f32⟩
  | 41 => ⟨S_, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S32768x512, .f32⟩
  | 48 => ⟨S32768x512, .f32⟩
  | 49 => ⟨S32768x512, .f32⟩
  | 50 => ⟨S_, .f32⟩
  | 51 => ⟨S32768x512, .f32⟩
  | 52 => ⟨S32768x512, .f32⟩
  | 53 => ⟨S32768x512, .f32⟩
  | 54 => ⟨S_, .f32⟩
  | 55 => ⟨S32768x512, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S32768x512, .f32⟩
  | 65 => ⟨S32768x512, .f32⟩
  | 66 => ⟨S32768x512, .f32⟩
  | 67 => ⟨S_, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S32768x512, .f32⟩
  | 74 => ⟨S32768x512, .f32⟩
  | 75 => ⟨S32768x512, .f32⟩
  | 76 => ⟨S32768x512, .f32⟩
  | 77 => ⟨S_, .f32⟩
  | 78 => ⟨S32768x512, .f32⟩
  | 79 => ⟨S32768x512, .f32⟩
  | 80 => ⟨S32768x512, .f32⟩
  | 81 => ⟨S_, .f32⟩
  | 82 => ⟨S32768x512, .f32⟩
  | 83 => ⟨S32768x512, .f32⟩
  | 84 => ⟨S32768x512, .f32⟩
  | 85 => ⟨S_, .f32⟩
  | 86 => ⟨S32768x512, .f32⟩
  | 87 => ⟨S32768x512, .f32⟩
  | 88 => ⟨S_, .f32⟩
  | 89 => ⟨S32768x512, .f32⟩
  | 90 => ⟨S32768x512, .f32⟩
  | 91 => ⟨S32768x512, .f32⟩
  | 92 => ⟨S_, .f32⟩
  | 93 => ⟨S32768, .f32⟩
  | 94 => ⟨S32768x1, .f32⟩
  | 95 => ⟨S_, .f32⟩
  | 96 => ⟨S32768x1, .f32⟩
  | 97 => ⟨S32768x1, .f32⟩
  | 98 => ⟨S32768x512, .f32⟩
  | 99 => ⟨S32768x512, .f32⟩
  | 100 => ⟨S32768x512, .f32⟩
  | 101 => ⟨S_, .f32⟩
  | 102 => ⟨S32768, .f32⟩
  | 103 => ⟨S32768x1, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x1, .f32⟩
  | 111 => ⟨S32768x512, .f32⟩
  | 112 => ⟨S32768x512, .f32⟩
  | 113 => ⟨S1x512, .f32⟩
  | 114 => ⟨S32768x512, .f32⟩
  | 115 => ⟨S32768x512, .f32⟩
  | 116 => ⟨S1x512, .f32⟩
  | 117 => ⟨S32768x512, .f32⟩
  | 118 => ⟨S32768x512, .f32⟩
  | 119 => ⟨S32768x512, .bf16⟩
  | 120 => ⟨S32768x256, .bf16⟩
  | 121 => ⟨S32768x512, .bf16⟩
  | 122 => ⟨S32768x512, .bf16⟩
  | 123 => ⟨S32768x512, .bf16⟩
  | 124 => ⟨S32768x512, .bf16⟩
  | 125 => ⟨S_, .i32⟩
  | 126 => ⟨S_, .f32⟩
  | 127 => ⟨S32768x128, .f32⟩
  | _ => ⟨S32768x1024, .f32⟩

abbrev hbmTy0_1 (i : Nat) : BufTy := match i % 128 with
  | 0 => ⟨S32768x128, .f32⟩
  | 1 => ⟨S32768x128, .f32⟩
  | 2 => ⟨S_, .f32⟩
  | 3 => ⟨S32768x128, .f32⟩
  | 4 => ⟨S32768x128, .f32⟩
  | 5 => ⟨S_, .f32⟩
  | 6 => ⟨S32768x128, .f32⟩
  | 7 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c : Ref sig .tc := ⟨.hbm, 125, rfl⟩
abbrev main_call2_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_16 : Ref sig .tc := ⟨.hbm, 130, rfl⟩
abbrev main_v90 : Ref sig .tc := ⟨.hbm, 131, rfl⟩
abbrev main_v91 : Ref sig .tc := ⟨.hbm, 132, rfl⟩
abbrev main_cst_17 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]
-- ==== EvenOut.lean ====
abbrev S32768x512 : Shape := ⟨2, ![32768, 512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S32768x1024 : Shape := ⟨2, ![32768, 1024]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S256x512 : Shape := ⟨2, ![256, 512]⟩
abbrev S256x1024 : Shape := ⟨2, ![256, 1024]⟩
abbrev S128x128 : Shape := ⟨2, ![128, 128]⟩
abbrev S1x128x128 : Shape := ⟨3, ![1, 128, 128]⟩
abbrev S512x1024 : Shape := ⟨2, ![512, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S128x8, .f32⟩
  | .hbm, ⟨10, _⟩ => ⟨S128x8x64, .f32⟩
  | .hbm, ⟨11, _⟩ => ⟨S128x512, .f32⟩
  | .hbm, ⟨12, _⟩ => ⟨S1024x1024, .bf16⟩
  | .hbm, ⟨13, _⟩ => ⟨S1x1024, .f32⟩
  | .hbm, ⟨14, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S8x128x128, .f32⟩
  | .local _ .vmem, ⟨9, _⟩ => ⟨S128x512, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenOutRefIdeal.lean ====
abbrev S32768x512 : Shape := ⟨2, ![32768, 512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S32768x1024 : Shape := ⟨2, ![32768, 1024]⟩
abbrev S256x128x8x64 : Shape := ⟨4, ![256, 128, 8, 64]⟩
abbrev S128x128 : Shape := ⟨2, ![128, 128]⟩
abbrev S_ : Shape := ⟨0, ![]⟩
abbrev S8x256x64x128 : Shape := ⟨4, ![8, 256, 64, 128]⟩
abbrev S128x8 : Shape := ⟨2, ![128, 8]⟩
abbrev S1x128x8x1 : Shape := ⟨4, ![1, 128, 8, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S256x128x8x64, .f32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S8x128x128, .i1⟩
  | .hbm, ⟨21, _⟩ => ⟨S_, .f32⟩
  | .hbm, ⟨22, _⟩ => ⟨S8x128x128, .f32⟩
  | .hbm, ⟨23, _⟩ => ⟨S8x128x128, .f32⟩
  | .hbm, ⟨24, _⟩ => ⟨S8x256x64x128, .f32⟩
  | .hbm, ⟨25, _⟩ => ⟨S256x128x8x64, .f32⟩
  | .hbm, ⟨26, _⟩ => ⟨S128x8, .f32⟩
  | .hbm, ⟨27, _⟩ => ⟨S1x128x8x1, .f32⟩
  | .hbm, ⟨28, _⟩ => ⟨S256x128x8x64, .f32⟩
  | .hbm, ⟨29, _⟩ => ⟨S256x128x8x64, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_cst : Ref sig .tc := ⟨.hbm, 21, rfl⟩
abbrev main_call0_v6 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.Odd.Base.lean ====
/- What the two runs of the kernel's body are stated over: the branch on the first row tile of a sequence, the
   staging memrefs of a grid point, and the two scratch buffers. -/
module

public import proofs.«01_k».proof.Proof.Gen.OddIdeal.Frame
public import proofs.«01_k».proof.Proof.Gen.OddIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 9, through which its contents are stated (`View.read_writes_of_cover`: the
    choice does not matter). -/
abbrev VO0_9 : View sig .tc .vmem S1x512x1024 .f32 := (Memref.whole cc0_stg9_0 : Memref sig .tc .vmem S1x512x1024 .f32).view
/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S38x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S68x8x1024 .f32 := Memref.whole cc0_scratch0
abbrev scM0_1 : Memref sig .tc .vmem S512x1024 .f32 := Memref.whole cc0_scratch1
/-- The scratch `arg12` the kernel carries between points, as a view: what it holds is stated through it. -/
abbrev VS0_0 : View sig .tc .vmem S68x8x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OddIdeal.Hand

end
-- ==== Proof.Odd.Conv.lean ====
/- The depthwise convolution as the kernel computes it: 38 tap rows, eight shifted copies of the weights each, against the rows
   of the halo buffer, one 8 by 128 block at a time; and the facts every lane tile's loop uses. -/
module

public import proofs.«01_k».proof.Proof.Gen.OddIdeal.Loops
public import Idealize.ShloMosaic.Lib.Pipeline.ValueKit
public import Idealize.ShloMosaic.Lib.Pointwise

@[expose] public section

set_option maxRecDepth 16384

noncomputable section

namespace Cert.OddIdeal.Hand

open Cert.OddIdeal Cert.OddIdeal.Gen
open Idealize.ShloMosaic Idealize.ShloMosaic.TcCoe Idealize.SL.Sem

/-- Row `n` of the halo buffer's 544 rows, which it holds eight to a block. -/
def haloRow (V : S68x8x1024.Idx → EReal) (n : ℕ) (c : ℕ) : EReal :=
  V (ix3 (Fin.ofNat 68 (n / 8)) (Fin.ofNat 8 (n % 8)) (Fin.ofNat 1024 c))

/-- `b + f 0 + f 1 + …`, added from the left. -/
def runSum (b : EReal) (f : ℕ → EReal) : ℕ → EReal
  | 0 => b
  | n + 1 => runSum b f n + f n

theorem runSum_eq (b : EReal) (f : ℕ → EReal) (n : ℕ) : runSum b f n = b + ∑ j ∈ Finset.range n, f j := by
  induction n with
  | zero => simp [runSum]
  | succ n ih => rw [runSum, ih, Finset.sum_range_succ, add_assoc]

/-- The 38 tap rows times the halo rows, started from the bias: one element of the convolution's scratch. -/
def convAt (w : Vec Ideal S38x8x1024 .f32) (b : Vec Ideal S1x1024 .f32) (V : S68x8x1024.Idx → EReal) : S512x1024.Idx → EReal :=
  fun i => runSum (b (ix2 0 (i 1)))
    (fun j => w (ix3 (Fin.ofNat 38 j) (Fin.ofNat 8 (i 0).val) (i 1)) * haloRow V (8 * ((i 0).val / 8) + (2 + j)) (i 1).val) 38

/-- A load of one halo row's 128 columns, at offsets in closed form. -/
theorem readAt_haloRow (v : View sig .tc .vmem S68x8x1024 .f32) (X : v.ty.Contents (Elt Ideal)) (off : Fin 3 → ℕ) [co : ClosedOff off]
    (h : ∀ a, off a + S1x1x128.size a ≤ S68x8x1024.size a) (l : Fin 128) (n c : ℕ) (hn : 8 * co.form 0 + co.form 1 = n)
    (hc : co.form 2 + l.val = c) :
    View.readAt (Elt Ideal) v (Rect.unit (s := S68x8x1024) off S1x1x128.size h).toLoadRect X (ix3 0 0 l)
      = haloRow (v.read (Elt Ideal) X) n c := by
  obtain ⟨form, rfl⟩ := co
  have h0 : off 0 + 1 ≤ 68 := h 0
  have h1 : off 1 + 1 ≤ 8 := h 1
  have h2 : off 2 + 128 ≤ 1024 := h 2
  have hl := l.isLt
  change 8 * off 0 + off 1 = n at hn
  change off 2 + l.val = c at hc
  rw [View.readAt_apply]
  unfold haloRow
  refine congrArg _ (funext fun a => Fin.ext ?_)
  fin_cases a
  · show off 0 + 1 * 0 = (n / 8) % 68
    omega
  · show off 1 + 1 * 0 = (n % 8) % 8
    omega
  · show off 2 + 1 * l.val = c % 1024
    omega

/-- The convolution's element at coordinate `x` of an 8 by 128 block, in the block's own coordinates. -/
theorem convAt_block (wt : Vec Ideal S38x8x1024 .f32) (bi : Vec Ideal S1x1024 .f32) (V : S68x8x1024.Idx → EReal) (off : Fin 2 → ℕ)
    [co : ClosedOff off] (h : ∀ a, off a + S8x128.size a ≤ S512x1024.size a) (x : S8x128.Idx) (q c0 : ℕ) (hq : co.form 0 = 8 * q)
    (hc : co.form 1 = c0) :
    convAt wt bi V ((Rect.unit (s := S512x1024) off S8x128.size h).emb x)
      = runSum (bi (ix2 0 (Fin.ofNat 1024 (c0 + (x 1).val))))
          (fun j => wt (ix3 (Fin.ofNat 38 j) (x 0) (Fin.ofNat 1024 (c0 + (x 1).val))) * haloRow V (8 * q + (2 + j)) (c0 + (x 1).val)) 38 := by
  obtain ⟨form, rfl⟩ := co
  have h0 : off 0 + 8 ≤ 512 := h 0
  have h1 : off 1 + 128 ≤ 1024 := h 1
  change off 0 = 8 * q at hq
  change off 1 = c0 at hc
  have hx0 : (x 0).val < 8 := (x 0).isLt
  have hx1 : (x 1).val < 128 := (x 1).isLt
  have e0 : (((Rect.unit (s := S512x1024) off S8x128.size h).emb x) 0).val = 8 * q + (x 0).val := by
    show off 0 + 1 * (x 0).val = _
    omega
  have e1 : ((Rect.unit (s := S512x1024) off S8x128.size h).emb x) 1 = Fin.ofNat 1024 (c0 + (x 1).val) := by
    refine Fin.ext ?_
    show off 1 + 1 * (x 1).val = (c0 + (x 1).val) % 1024
    omega
  have e2 : Fin.ofNat 8 (8 * q + (x 0).val) = x 0 := Fin.ext (show (8 * q + (x 0).val) % 8 = (x 0).val by omega)
  have e3 : (Fin.ofNat 1024 (c0 + (x 1).val)).val = c0 + (x 1).val := Nat.mod_eq_of_lt (by omega)
  have e4 : (8 * q + (x 0).val) / 8 = q := by omega
  unfold convAt
  rw [e0, e1, e2, e3, e4]

/-- One more tap on both sides. -/
theorem tap_congr {a a' w w' r r' : EReal} (h : a = a') (hw : w = w') (hr : r = r') : a + w * r = a' + w' * r' := by rw [h, hw, hr]

/-- A tap vector a loop is given is tap `j` of the weights, in the column block starting at `c0`. -/
abbrev TapOf (wt : Vec Ideal S38x8x1024 .f32) (c0 j : ℕ) (w : FVec Ideal S8x128 .f32) : Prop :=
  ∀ x : S8x128.Idx, w x = wt (ix3 (Fin.ofNat 38 j) (x 0) (Fin.ofNat 1024 (c0 + (x 1).val)))

/-- The same of a tap still in the shape it was loaded in. -/
abbrev RawTapOf (wt : Vec Ideal S38x8x1024 .f32) (c0 j : ℕ) (w : Vec Ideal S1x8x128 .f32) : Prop :=
  ∀ x : S1x8x128.Idx, w x = wt (ix3 (Fin.ofNat 38 j) (x 1) (Fin.ofNat 1024 (c0 + (x 2).val)))

/-- The bias row a loop is given is the bias in the column block starting at `c0`. -/
abbrev BiasOf (bi : Vec Ideal S1x1024 .f32) (c0 : ℕ) (b : S1x128.Idx → EReal) : Prop :=
  ∀ l : Fin 128, b (ix2 0 l) = bi (ix2 0 (Fin.ofNat 1024 (c0 + l.val)))

/-- What every trip's pieces satisfy, the whole loop's do. -/
theorem loop_pieces {α : Type} {n : ℕ} {P : α → Prop} {pb : ℕ → List α} {L : Fin n → List α}
    (hs : ∀ k : Fin n, pb (k.val + 1) = L k ++ pb k.val) (h0 : pb 0 = []) (hL : ∀ k, ∀ p ∈ L k, P p) : ∀ p ∈ pb n, P p := by
  have H : ∀ k, k ≤ n → ∀ p ∈ pb k, P p := by
    intro k
    induction k with
    | zero => intro _ p hp; rw [h0] at hp; exact absurd hp List.not_mem_nil
    | succ k ih =>
      intro hk p hp
      rw [hs ⟨k, hk⟩] at hp
      rcases List.mem_append.mp hp with h | h
      · exact hL _ p h
      · exact ih (Nat.le_of_lt hk) p h
  exact H n le_rfl

end Cert.OddIdeal.Hand

end
-- ==== Proof.Odd.Halo.lean ====
/- What the scratch buffers hold around one grid point, and the tile the point writes, named by values. -/
module

public import proofs.«01_k».proof.Proof.Odd.Base
public import proofs.«01_k».proof.Proof.Odd.Conv
public import Idealize.ShloMosaic.Lib.WritesUnit
public import Idealize.ShloMosaic.Lib.VecWindow

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The gated rows of one tile, which the convolution runs over. -/
def yTile (x0 : Vec Ideal S1x512x1024 .f32) (x1 : Vec Ideal S1x1024 .f32) (x2 : Vec Ideal S1024x3072 .bf16) : Vec Ideal S64x8x1024 .f32 :=
  k0_pay405 (F := Ideal) x0 x1 (View.ld x2 (Rect.unit (s := S1024x3072) ![0, 0] S1024x1024.size inb_S1024x3072_S1024x1024_0_0))
    (View.ld x2 (Rect.unit (s := S1024x3072) ![0, 1024] S1024x1024.size inb_S1024x3072_S1024x1024_0_1024))

/-- The halo buffer: four blocks of history, then the tile's 64 blocks. -/
def halo (Z : Vec Ideal S4x8x1024 .f32) (Y : Vec Ideal S64x8x1024 .f32) : Vec Ideal S68x8x1024 .f32 := fun i =>
  if h : (i 0).val < 4 then Z (ix3 ⟨(i 0).val, h⟩ (i 1) (i 2))
  else Y (ix3 ⟨(i 0).val - 4, by have : (i 0).val < 68 := (i 0).isLt; omega⟩ (i 1) (i 2))

/-- The last four blocks of a tile: the next tile's history. -/
def lastRows (Y : Vec Ideal S64x8x1024 .f32) : Vec Ideal S4x8x1024 .f32 := fun i =>
  Y (ix3 ⟨(i 0).val + 60, by have : (i 0).val < 4 := (i 0).isLt; omega⟩ (i 1) (i 2))

/-- The history the halo buffer holds. -/
def headRows (V : Vec Ideal S68x8x1024 .f32) : Vec Ideal S4x8x1024 .f32 := fun i =>
  V (ix3 ⟨(i 0).val, by have : (i 0).val < 4 := (i 0).isLt; omega⟩ (i 1) (i 2))

theorem halo_lt (Z : Vec Ideal S4x8x1024 .f32) (Y : Vec Ideal S64x8x1024 .f32) (i : S68x8x1024.Idx) (h : (i 0).val < 4) :
    halo Z Y i = Z (ix3 ⟨(i 0).val, h⟩ (i 1) (i 2)) := dif_pos h

theorem halo_ge (Z : Vec Ideal S4x8x1024 .f32) (Y : Vec Ideal S64x8x1024 .f32) (i : S68x8x1024.Idx) (r : Fin 64) (h : r.val + 4 = (i 0).val) :
    halo Z Y i = Y (ix3 r (i 1) (i 2)) := by
  refine (dif_neg (show ¬ (i 0).val < 4 by omega)).trans (congrArg Y ?_)
  funext a
  fin_cases a
  · exact Fin.ext (show (i 0).val - 4 = r.val by omega)
  · rfl
  · rfl

theorem headRows_halo (Z : Vec Ideal S4x8x1024 .f32) (Y : Vec Ideal S64x8x1024 .f32) : headRows (halo Z Y) = Z := by
  funext i
  have h : (i 0).val < 4 := (i 0).isLt
  refine (halo_lt Z Y _ h).trans (congrArg Z ?_)
  funext a
  fin_cases a <;> rfl

/-- The tile a grid point writes, over what its halo buffer holds. -/
def outTile (x0 : Vec Ideal S1x512x1024 .f32) (x1 : Vec Ideal S1x1024 .f32) (x2 : Vec Ideal S1024x3072 .bf16) (x3 : Vec Ideal S38x8x1024 .f32)
    (x4 x5 x6 : Vec Ideal S1x1024 .f32) (x7 : Vec Ideal S1024x1024 .bf16) (x8 : Vec Ideal S1x1024 .f32) (V : Vec Ideal S68x8x1024 .f32) :
    Vec Ideal S1x512x1024 .f32 :=
  k0_pay1 (F := Ideal) (k0_pay402 x0) (k0_pay736 (k0_pay403 x0 x1) (convAt x3 x4 V) x5 x6
    (View.ld x2 (Rect.unit (s := S1024x3072) ![0, 2048] S1024x1024.size inb_S1024x3072_S1024x1024_0_2048)) x7) (k0_pay737 x8)

section
variable (v : View sig .tc .vmem S68x8x1024 .f32) (f : v.ty.Contents (Elt Ideal))

/-- Storing the history leaves the rest of the halo buffer. -/
theorem read_history (z : S4x8x1024.Idx → EReal) (L : List (View.Piece (Elt Ideal) S68x8x1024 .f32)) (h)
    (Z : Vec Ideal S4x8x1024 .f32) (Y : Vec Ideal S64x8x1024 .f32) (hL : v.read (Elt Ideal) (v.writes (Elt Ideal) f L) = halo Z Y) :
    v.read (Elt Ideal) (v.writes (Elt Ideal) f ((⟨Rect.unit (s := S68x8x1024) ![0, 0, 0] S4x8x1024.size h, z⟩ : View.Piece (Elt Ideal) S68x8x1024 .f32) :: L)) = halo z Y := by
  funext i
  by_cases hi : (i 0).val < 4
  · refine (View.read_writes_cons_unit_of_mem (off' := ![0, 0, 0]) v f h z L i (ix3 ⟨(i 0).val, hi⟩ (i 1) (i 2)) rfl fun a => ?_).trans
      (halo_lt z Y i hi).symm
    fin_cases a <;> exact (Nat.zero_add _).symm
  · refine (View.read_writes_cons_unit_of_not_mem (off' := ![0, 0, 0]) v f h z L i rfl 0 (.inr ?_)).trans ?_
    · show 0 + 4 ≤ (i 0).val; omega
    · have h68 : (i 0).val < 68 := (i 0).isLt
      rw [hL, halo_ge Z Y i ⟨(i 0).val - 4, by omega⟩ (by dsimp only; omega), halo_ge z Y i ⟨(i 0).val - 4, by omega⟩ (by dsimp only; omega)]

/-- Storing the tile keeps the history. -/
theorem read_tile (w : S64x8x1024.Idx → EReal) (L : List (View.Piece (Elt Ideal) S68x8x1024 .f32)) (h) :
    v.read (Elt Ideal) (v.writes (Elt Ideal) f ((⟨Rect.unit (s := S68x8x1024) ![4, 0, 0] S64x8x1024.size h, w⟩ : View.Piece (Elt Ideal) S68x8x1024 .f32) :: L))
      = halo (headRows (v.read (Elt Ideal) (v.writes (Elt Ideal) f L))) w := by
  funext i
  have h68 : (i 0).val < 68 := (i 0).isLt
  by_cases hi : (i 0).val < 4
  · refine (View.read_writes_cons_unit_of_not_mem (off' := ![4, 0, 0]) v f h w L i rfl 0 (.inl hi)).trans ?_
    refine Eq.trans ?_ (halo_lt _ w i hi).symm
    refine congrArg _ ?_
    funext a
    fin_cases a <;> rfl
  · refine (View.read_writes_cons_unit_of_mem (off' := ![4, 0, 0]) v f h w L i (ix3 ⟨(i 0).val - 4, by omega⟩ (i 1) (i 2)) rfl fun a => ?_).trans
      (halo_ge _ w i ⟨(i 0).val - 4, by omega⟩ (by dsimp only; omega)).symm
    fin_cases a
    · show (i 0).val = 4 + ((i 0).val - 4); omega
    · exact (Nat.zero_add _).symm
    · exact (Nat.zero_add _).symm

/-- The history's rows after the store of it. -/
theorem headRows_history (z : S4x8x1024.Idx → EReal) (L : List (View.Piece (Elt Ideal) S68x8x1024 .f32)) (h) :
    headRows (v.read (Elt Ideal) (v.writes (Elt Ideal) f ((⟨Rect.unit (s := S68x8x1024) ![0, 0, 0] S4x8x1024.size h, z⟩ : View.Piece (Elt Ideal) S68x8x1024 .f32) :: L))) = z := by
  funext i
  refine View.read_writes_cons_unit_of_mem (off' := ![0, 0, 0]) v f h z L _ i rfl fun a => ?_
  fin_cases a <;> exact (Nat.zero_add _).symm

/-- The load of the last four blocks. -/
theorem readAt_last (h) (Z : Vec Ideal S4x8x1024 .f32) (Y : Vec Ideal S64x8x1024 .f32) (hf : v.read (Elt Ideal) f = halo Z Y) :
    View.readAt (Elt Ideal) v (Rect.unit (s := S68x8x1024) ![64, 0, 0] S4x8x1024.size h).toLoadRect f = lastRows Y := by
  funext i
  have hi : (i 0).val < 4 := (i 0).isLt
  rw [View.readAt_apply, hf]
  refine (halo_ge Z Y _ ⟨(i 0).val + 60, by omega⟩ (show (i 0).val + 60 + 4 = 64 + 1 * (i 0).val by omega)).trans (congrArg Y ?_)
  funext a
  fin_cases a
  · rfl
  · exact Fin.ext (show 0 + 1 * (i 1).val = (i 1).val by omega)
  · exact Fin.ext (show 0 + 1 * (i 2).val = (i 2).val by omega)

end

/-- A whole load of a whole buffer at named contents is the contents. -/
theorem readAt_unread {S : Shape} {e : EltTy} (a : Memref sig .tc .vmem S e) (ha : a.IsWhole) (off : Fin S.rank → ℕ) (h) (x : Vec Ideal S e)
    (h0 : ∀ k, off k = 0) : View.readAt (Elt Ideal) a.view (Rect.unit (s := S) off S.size h).toLoadRect (ha.unread x) = x := by
  rw [View.readAt_eq_ld, ha.read_unread]
  exact View.ld_unit_lit h x h0

/-- A tap vector as the body loads it. -/
theorem rawTap_load (a : Memref sig .tc .vmem S38x8x1024 .f32) (ha : a.IsWhole) (x3 : Vec Ideal S38x8x1024 .f32) (j c0 : ℕ) (h)
    (hj : j < 38) (hc : c0 + 128 ≤ 1024) :
    RawTapOf x3 c0 j (View.readAt (Elt Ideal) a.view (Rect.unit (s := S38x8x1024) ![j, 0, c0] S1x8x128.size h).toLoadRect (ha.unread x3)) := by
  intro x
  have hx0 : (x 0).val < 1 := (x 0).isLt
  have hx2 : (x 2).val < 128 := (x 2).isLt
  rw [View.readAt_apply, ha.read_unread]
  refine congrArg x3 ?_
  funext a
  fin_cases a
  · exact Fin.ext (show j + 1 * (x 0).val = j % 38 by omega)
  · exact Fin.ext (show 0 + 1 * (x 1).val = (x 1).val by omega)
  · exact Fin.ext (show c0 + 1 * (x 2).val = (c0 + (x 2).val) % 1024 by omega)

/-- A tap vector reshaped to eight rows. -/
theorem tap_of_raw (x3 : Vec Ideal S38x8x1024 .f32) (c0 j : ℕ) (w : Vec Ideal S1x8x128 .f32) (hw : RawTapOf x3 c0 j w) :
    TapOf x3 c0 j (shapeCast S8x128 w shapeCasts_S1x8x128_S8x128) := by
  intro x
  pointwise []
  exact hw _

/-- The bias row as the body loads it. -/
theorem bias_load (a : Memref sig .tc .vmem S1x1024 .f32) (ha : a.IsWhole) (x4 : Vec Ideal S1x1024 .f32) (c0 : ℕ) (h) (hc : c0 + 128 ≤ 1024) :
    BiasOf x4 c0 (View.readAt (Elt Ideal) a.view (Rect.unit (s := S1x1024) ![0, c0] S1x128.size h).toLoadRect (ha.unread x4)) := by
  intro l
  have hl := l.isLt
  rw [View.readAt_apply, ha.read_unread]
  refine congrArg x4 ?_
  funext a
  fin_cases a
  · rfl
  · exact Fin.ext (show c0 + 1 * l.val = (c0 + l.val) % 1024 by omega)

/-- The same through a reshape to the same shape. -/
theorem bias_cast (x4 : Vec Ideal S1x1024 .f32) (c0 : ℕ) (w : Vec Ideal S1x128 .f32) (hw : BiasOf x4 c0 w) :
    BiasOf x4 c0 (shapeCast S1x128 w shapeCasts_S1x128_S1x128) := by
  intro l
  pointwise []
  exact hw _

theorem pay735_eq (w : Vec Ideal S4x8x1024 .f32) : k0_pay735 (F := Ideal) w = w := by
  funext i
  pointwise [k0_pay735]

section
variable (arg2 : Memref sig .tc .vmem S1x512x1024 .f32) (harg2 : arg2.IsWhole) (arg3 : Memref sig .tc .vmem S1x1024 .f32) (harg3 : arg3.IsWhole)
  (arg4 : Memref sig .tc .vmem S1024x3072 .bf16) (harg4 : arg4.IsWhole) (arg7 : Memref sig .tc .vmem S1x1024 .f32) (harg7 : arg7.IsWhole)
  (arg8 : Memref sig .tc .vmem S1x1024 .f32) (harg8 : arg8.IsWhole) (arg9 : Memref sig .tc .vmem S1024x1024 .bf16) (harg9 : arg9.IsWhole)
  (arg10 : Memref sig .tc .vmem S1x1024 .f32) (harg10 : arg10.IsWhole)
  (x0 : Vec Ideal S1x512x1024 .f32) (x1 : Vec Ideal S1x1024 .f32) (x2 : Vec Ideal S1024x3072 .bf16) (x3 : Vec Ideal S38x8x1024 .f32)
  (x4 x5 x6 : Vec Ideal S1x1024 .f32) (x7 : Vec Ideal S1024x1024 .bf16) (x8 : Vec Ideal S1x1024 .f32)

/-- The gated rows, over the body's loads. -/
theorem yTile_load (h0) (h1) (h2) (h3) :
    k0_pay405 (F := Ideal) (View.readAt (Elt Ideal) arg2.view (Rect.unit (s := S1x512x1024) ![0, 0, 0] S1x512x1024.size h0).toLoadRect (harg2.unread x0))
      (View.readAt (Elt Ideal) arg3.view (Rect.unit (s := S1x1024) ![0, 0] S1x1024.size h1).toLoadRect (harg3.unread x1))
      (View.readAt (Elt Ideal) arg4.view (Rect.unit (s := S1024x3072) ![0, 0] S1024x1024.size h2).toLoadRect (harg4.unread x2))
      (View.readAt (Elt Ideal) arg4.view (Rect.unit (s := S1024x3072) ![0, 1024] S1024x1024.size h3).toLoadRect (harg4.unread x2))
      = yTile x0 x1 x2 := by
  rw [readAt_unread arg2 harg2 _ _ _ (by intro a; fin_cases a <;> rfl), readAt_unread arg3 harg3 _ _ _ (by intro a; fin_cases a <;> rfl),
    View.readAt_eq_ld, View.readAt_eq_ld, harg4.read_unread]
  rfl

/-- The tile written, over the body's loads. -/
theorem outTile_load (h0) (h1) (h3) (h4) (V : Vec Ideal S68x8x1024 .f32) (conv : Vec Ideal S512x1024 .f32) (hconv : conv = convAt x3 x4 V) :
    k0_pay1 (F := Ideal) (k0_pay402 (View.readAt (Elt Ideal) arg2.view (Rect.unit (s := S1x512x1024) ![0, 0, 0] S1x512x1024.size h0).toLoadRect (harg2.unread x0)))
      (k0_pay736
        (k0_pay403 (View.readAt (Elt Ideal) arg2.view (Rect.unit (s := S1x512x1024) ![0, 0, 0] S1x512x1024.size h0).toLoadRect (harg2.unread x0))
          (View.readAt (Elt Ideal) arg3.view (Rect.unit (s := S1x1024) ![0, 0] S1x1024.size h1).toLoadRect (harg3.unread x1)))
        conv
        (View.readAt (Elt Ideal) arg7.view (Rect.unit (s := S1x1024) ![0, 0] S1x1024.size h1).toLoadRect (harg7.unread x5))
        (View.readAt (Elt Ideal) arg8.view (Rect.unit (s := S1x1024) ![0, 0] S1x1024.size h1).toLoadRect (harg8.unread x6))
        (View.readAt (Elt Ideal) arg4.view (Rect.unit (s := S1024x3072) ![0, 2048] S1024x1024.size h3).toLoadRect (harg4.unread x2))
        (View.readAt (Elt Ideal) arg9.view (Rect.unit (s := S1024x1024) ![0, 0] S1024x1024.size h4).toLoadRect (harg9.unread x7)))
      (k0_pay737 (View.readAt (Elt Ideal) arg10.view (Rect.unit (s := S1x1024) ![0, 0] S1x1024.size h1).toLoadRect (harg10.unread x8)))
      = outTile x0 x1 x2 x3 x4 x5 x6 x7 x8 V := by
  subst hconv
  rw [readAt_unread arg2 harg2 _ _ _ (by intro a; fin_cases a <;> rfl), readAt_unread arg3 harg3 _ _ _ (by intro a; fin_cases a <;> rfl),
    readAt_unread arg7 harg7 _ _ _ (by intro a; fin_cases a <;> rfl), readAt_unread arg8 harg8 _ _ _ (by intro a; fin_cases a <;> rfl),
    readAt_unread arg9 harg9 _ _ _ (by intro a; fin_cases a <;> rfl), readAt_unread arg10 harg10 _ _ _ (by intro a; fin_cases a <;> rfl),
    View.readAt_eq_ld, harg4.read_unread]
  rfl

end

end Cert.OddIdeal.Hand

end
-- ==== Proof.Odd.Lanes1.lean ====
/- The convolution loops of the lane tiles at columns 0 and 128. -/
module

public import proofs.«01_k».proof.Proof.Odd.Conv

@[expose] public section

set_option maxRecDepth 16384

noncomputable section

namespace Cert.OddIdeal.Hand

open Cert.OddIdeal Cert.OddIdeal.Gen
open Idealize.ShloMosaic Idealize.ShloMosaic.TcCoe Idealize.SL.Sem

variable (𝒱 : Variants)
  (c : Dev nD)
  (bd : Option 𝒱.V)
  (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S38x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S68x8x1024 .f32) (harg12 : arg12.IsWhole)
  (arg13 : Memref sig .tc .vmem S512x1024 .f32) (harg13 : arg13.IsWhole)
  (X_arg12 : BufTy.Contents (Elt Ideal) arg12.view.ty)
  (wt : Vec Ideal S38x8x1024 .f32) (bi : Vec Ideal S1x1024 .f32)

set_option maxHeartbeats 1600000 in
/-- Every piece the loop of the lane tile at column 0 stores is the convolution there. -/
theorem lanes1 (w0 w1 w2 w3 w4 w5 w6 w7 w8 w9 w10 w11 w12 w13 w14 w15 w16 w17 w18 w19 w20 w21 w22 w23 w24 w25 w26 w27 w28 w29 w30 w31 w32 w33 w34 w35 w36 : FVec Ideal S8x128 .f32)
    (w37 : Vec Ideal S1x8x128 .f32) (b : Vec Ideal S1x128 .f32)
    (h0 : TapOf wt 0 0 w0) (h1 : TapOf wt 0 1 w1) (h2 : TapOf wt 0 2 w2) (h3 : TapOf wt 0 3 w3) (h4 : TapOf wt 0 4 w4) (h5 : TapOf wt 0 5 w5)
    (h6 : TapOf wt 0 6 w6) (h7 : TapOf wt 0 7 w7) (h8 : TapOf wt 0 8 w8) (h9 : TapOf wt 0 9 w9) (h10 : TapOf wt 0 10 w10) (h11 : TapOf wt 0 11 w11)
    (h12 : TapOf wt 0 12 w12) (h13 : TapOf wt 0 13 w13) (h14 : TapOf wt 0 14 w14) (h15 : TapOf wt 0 15 w15) (h16 : TapOf wt 0 16 w16)
    (h17 : TapOf wt 0 17 w17) (h18 : TapOf wt 0 18 w18) (h19 : TapOf wt 0 19 w19) (h20 : TapOf wt 0 20 w20) (h21 : TapOf wt 0 21 w21)
    (h22 : TapOf wt 0 22 w22) (h23 : TapOf wt 0 23 w23) (h24 : TapOf wt 0 24 w24) (h25 : TapOf wt 0 25 w25) (h26 : TapOf wt 0 26 w26)
    (h27 : TapOf wt 0 27 w27) (h28 : TapOf wt 0 28 w28) (h29 : TapOf wt 0 29 w29) (h30 : TapOf wt 0 30 w30) (h31 : TapOf wt 0 31 w31)
    (h32 : TapOf wt 0 32 w32) (h33 : TapOf wt 0 33 w33) (h34 : TapOf wt 0 34 w34) (h35 : TapOf wt 0 35 w35) (h36 : TapOf wt 0 36 w36)
    (h37 : RawTapOf wt 0 37 w37) (hb : BiasOf bi 0 b) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t1_loop.lb k0_t1_loop.ub k0_t1_loop.st),
      ∀ x : p.1.shape.Idx, p.2 x = convAt wt bi (arg12.view.read (Elt Ideal) X_arg12) (p.1.emb x) := by
  refine loop_pieces (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t1 trip_k0_t1
  dsimp only
  intro p hp
  simp only [List.mem_cons, List.not_mem_nil, or_false] at hp
  rcases hp with rfl | rfl
  all_goals
    intro x
    dsimp only
    simp only [trip_k0_t1.sl.r_1, trip_k0_t1.sl.r_2, trip_k0_t1.sl.r_3, trip_k0_t1.sl.r_4, trip_k0_t1.sl.r_5, trip_k0_t1.sl.r_6, trip_k0_t1.sl.r_7,
      trip_k0_t1.sl.r_8, trip_k0_t1.sl.r_9, trip_k0_t1.sl.r_10, trip_k0_t1.sl.r_11, trip_k0_t1.sl.r_12, trip_k0_t1.sl.r_13, trip_k0_t1.sl.r_14,
      trip_k0_t1.sl.r_15, trip_k0_t1.sl.r_16, trip_k0_t1.sl.r_17, trip_k0_t1.sl.r_18, trip_k0_t1.sl.r_19]
    pointwise [k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay443, k0_pay444, k0_pay445, k0_pay446]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 0 (by simp only [ClosedOff.form, Matrix.cons_val]; omega) rfl]
      | rw [convAt_block _ _ _ _ _ _ (2 * k.val + 1) 0 (by simp only [ClosedOff.form, Matrix.cons_val]; omega) rfl]
    simp only [runSum]
    iterate 38 refine tap_congr ?_ ?_ ?_
    all_goals first
      | rfl
      | exact hb _
      | (refine Eq.trans ?_ (hb (x 1)); pointwise [k0_pay444]; done)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

set_option maxHeartbeats 1600000 in
/-- Every piece the loop of the lane tile at column 128 stores is the convolution there. -/
theorem lanes2 (w0 w1 w2 w3 w4 w5 w6 w7 w8 w9 w10 w11 w12 w13 w14 w15 w16 w17 w18 w19 w20 w21 w22 w23 w24 w25 w26 w27 w28 w29 w30 w31 : FVec Ideal S8x128 .f32)
    (w32 w33 w34 w35 w36 w37 : Vec Ideal S1x8x128 .f32) (b : Vec Ideal S1x128 .f32)
    (h0 : TapOf wt 128 0 w0) (h1 : TapOf wt 128 1 w1) (h2 : TapOf wt 128 2 w2) (h3 : TapOf wt 128 3 w3) (h4 : TapOf wt 128 4 w4) (h5 : TapOf wt 128 5 w5)
    (h6 : TapOf wt 128 6 w6) (h7 : TapOf wt 128 7 w7) (h8 : TapOf wt 128 8 w8) (h9 : TapOf wt 128 9 w9) (h10 : TapOf wt 128 10 w10)
    (h11 : TapOf wt 128 11 w11) (h12 : TapOf wt 128 12 w12) (h13 : TapOf wt 128 13 w13) (h14 : TapOf wt 128 14 w14) (h15 : TapOf wt 128 15 w15)
    (h16 : TapOf wt 128 16 w16) (h17 : TapOf wt 128 17 w17) (h18 : TapOf wt 128 18 w18) (h19 : TapOf wt 128 19 w19) (h20 : TapOf wt 128 20 w20)
    (h21 : TapOf wt 128 21 w21) (h22 : TapOf wt 128 22 w22) (h23 : TapOf wt 128 23 w23) (h24 : TapOf wt 128 24 w24) (h25 : TapOf wt 128 25 w25)
    (h26 : TapOf wt 128 26 w26) (h27 : TapOf wt 128 27 w27) (h28 : TapOf wt 128 28 w28) (h29 : TapOf wt 128 29 w29) (h30 : TapOf wt 128 30 w30)
    (h31 : TapOf wt 128 31 w31) (h32 : RawTapOf wt 128 32 w32) (h33 : RawTapOf wt 128 33 w33) (h34 : RawTapOf wt 128 34 w34)
    (h35 : RawTapOf wt 128 35 w35) (h36 : RawTapOf wt 128 36 w36) (h37 : RawTapOf wt 128 37 w37) (hb : BiasOf bi 128 b) :
    ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t2_loop.lb k0_t2_loop.ub k0_t2_loop.st),
      ∀ x : p.1.shape.Idx, p.2 x = convAt wt bi (arg12.view.read (Elt Ideal) X_arg12) (p.1.emb x) := by
  refine loop_pieces (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t2 trip_k0_t2
  dsimp only
  intro p hp
  simp only [List.mem_cons, List.not_mem_nil, or_false] at hp
  rcases hp with rfl | rfl
  all_goals
    intro x
    dsimp only
    simp only [trip_k0_t2.sl.r_1, trip_k0_t2.sl.r_2, trip_k0_t2.sl.r_3, trip_k0_t2.sl.r_4, trip_k0_t2.sl.r_5, trip_k0_t2.sl.r_6, trip_k0_t2.sl.r_7,
      trip_k0_t2.sl.r_8, trip_k0_t2.sl.r_9, trip_k0_t2.sl.r_10, trip_k0_t2.sl.r_11, trip_k0_t2.sl.r_12, trip_k0_t2.sl.r_13, trip_k0_t2.sl.r_14,
      trip_k0_t2.sl.r_15, trip_k0_t2.sl.r_16, trip_k0_t2.sl.r_17, trip_k0_t2.sl.r_18, trip_k0_t2.sl.r_19]
    pointwise [k0_pay52, k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay479, k0_pay480, k0_pay481, k0_pay482, k0_pay483, k0_pay484, k0_pay485, k0_pay486,
      k0_pay487]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 128 (by simp only [ClosedOff.form, Matrix.cons_val]; omega) rfl]
      | rw [convAt_block _ _ _ _ _ _ (2 * k.val + 1) 128 (by simp only [ClosedOff.form, Matrix.cons_val]; omega) rfl]
    simp only [runSum]
    iterate 38 refine tap_congr ?_ ?_ ?_
    all_goals first
      | rfl
      | exact hb _
      | (refine Eq.trans ?_ (hb (x 1)); pointwise [k0_pay485]; done)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

end Cert.OddIdeal.Hand

end
-- ==== Proof.Odd.Lanes2.lean ====
/- The convolution loops of the lane tiles at columns 256 and 384. -/
module

public import proofs.«01_k».proof.Proof.Odd.Conv

@[expose] public section

set_option maxRecDepth 16384

noncomputable section

namespace Cert.OddIdeal.Hand

open Cert.OddIdeal Cert.OddIdeal.Gen
open Idealize.ShloMosaic Idealize.ShloMosaic.TcCoe Idealize.SL.Sem

variable (𝒱 : Variants)
  (c : Dev nD)
  (bd : Option 𝒱.V)
  (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S38x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S68x8x1024 .f32) (harg12 : arg12.IsWhole)
  (arg13 : Memref sig .tc .vmem S512x1024 .f32) (harg13 : arg13.IsWhole)
  (X_arg12 : BufTy.Contents (Elt Ideal) arg12.view.ty)
  (wt : Vec Ideal S38x8x1024 .f32) (bi : Vec Ideal S1x1024 .f32)

set_option maxHeartbeats 1600000 in
/-- Every piece the loop of the lane tile at column 256 stores is the convolution there. -/
theorem lanes3 (w0 w1 w2 w3 w4 w5 w6 w7 w8 w9 w10 w11 w12 w13 w14 w15 w16 w17 w18 w19 w20 w21 w22 w23 w24 w25 w26 w27 : FVec Ideal S8x128 .f32)
    (w28 w29 w30 w31 w32 w33 w34 w35 w36 w37 : Vec Ideal S1x8x128 .f32) (b : Vec Ideal S1x128 .f32)
    (h0 : TapOf wt 256 0 w0) (h1 : TapOf wt 256 1 w1) (h2 : TapOf wt 256 2 w2) (h3 : TapOf wt 256 3 w3) (h4 : TapOf wt 256 4 w4) (h5 : TapOf wt 256 5 w5)
    (h6 : TapOf wt 256 6 w6) (h7 : TapOf wt 256 7 w7) (h8 : TapOf wt 256 8 w8) (h9 : TapOf wt 256 9 w9) (h10 : TapOf wt 256 10 w10)
    (h11 : TapOf wt 256 11 w11) (h12 : TapOf wt 256 12 w12) (h13 : TapOf wt 256 13 w13) (h14 : TapOf wt 256 14 w14) (h15 : TapOf wt 256 15 w15)
    (h16 : TapOf wt 256 16 w16) (h17 : TapOf wt 256 17 w17) (h18 : TapOf wt 256 18 w18) (h19 : TapOf wt 256 19 w19) (h20 : TapOf wt 256 20 w20)
    (h21 : TapOf wt 256 21 w21) (h22 : TapOf wt 256 22 w22) (h23 : TapOf wt 256 23 w23) (h24 : TapOf wt 256 24 w24) (h25 : TapOf wt 256 25 w25)
    (h26 : TapOf wt 256 26 w26) (h27 : TapOf wt 256 27 w27) (h28 : RawTapOf wt 256 28 w28) (h29 : RawTapOf wt 256 29 w29) (h30 : RawTapOf wt 256 30 w30)
    (h31 : RawTapOf wt 256 31 w31) (h32 : RawTapOf wt 256 32 w32) (h33 : RawTapOf wt 256 33 w33) (h34 : RawTapOf wt 256 34 w34)
    (h35 : RawTapOf wt 256 35 w35) (h36 : RawTapOf wt 256 36 w36) (h37 : RawTapOf wt 256 37 w37) (hb : BiasOf bi 256 b) :
    ∀ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t3_loop.lb k0_t3_loop.ub k0_t3_loop.st),
      ∀ x : p.1.shape.Idx, p.2 x = convAt wt bi (arg12.view.read (Elt Ideal) X_arg12) (p.1.emb x) := by
  refine loop_pieces (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t3 trip_k0_t3
  dsimp only
  intro p hp
  simp only [List.mem_cons, List.not_mem_nil, or_false] at hp
  rcases hp with rfl | rfl
  all_goals
    intro x
    dsimp only
    simp only [trip_k0_t3.sl.r_1, trip_k0_t3.sl.r_2, trip_k0_t3.sl.r_3, trip_k0_t3.sl.r_4, trip_k0_t3.sl.r_5, trip_k0_t3.sl.r_6, trip_k0_t3.sl.r_7,
      trip_k0_t3.sl.r_8, trip_k0_t3.sl.r_9, trip_k0_t3.sl.r_10, trip_k0_t3.sl.r_11, trip_k0_t3.sl.r_12, trip_k0_t3.sl.r_13, trip_k0_t3.sl.r_14,
      trip_k0_t3.sl.r_15, trip_k0_t3.sl.r_16, trip_k0_t3.sl.r_17, trip_k0_t3.sl.r_18, trip_k0_t3.sl.r_19]
    pointwise [k0_pay102, k0_pay103, k0_pay104, k0_pay105, k0_pay106, k0_pay107, k0_pay108, k0_pay109, k0_pay110, k0_pay111, k0_pay112, k0_pay113, k0_pay114,
      k0_pay115, k0_pay116, k0_pay117, k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay516, k0_pay517,
      k0_pay518, k0_pay519, k0_pay520, k0_pay521, k0_pay522, k0_pay523, k0_pay524, k0_pay525, k0_pay526, k0_pay527, k0_pay528]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 256 (by simp only [ClosedOff.form, Matrix.cons_val]; omega) rfl]
      | rw [convAt_block _ _ _ _ _ _ (2 * k.val + 1) 256 (by simp only [ClosedOff.form, Matrix.cons_val]; omega) rfl]
    simp only [runSum]
    iterate 38 refine tap_congr ?_ ?_ ?_
    all_goals first
      | rfl
      | exact hb _
      | (pointwise [k0_pay526]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

set_option maxHeartbeats 1600000 in
/-- Every piece the loop of the lane tile at column 384 stores is the convolution there. -/
theorem lanes4 (w0 w1 w2 w3 w4 w5 w6 w7 w8 w9 w10 w11 w12 w13 w14 w15 w16 w17 w18 w19 w20 w21 w22 w23 w24 w25 w26 w27 w28 w29 w30 w31 w32 w33 w34 : FVec Ideal S8x128 .f32)
    (w35 w36 w37 : Vec Ideal S1x8x128 .f32) (b : Vec Ideal S1x128 .f32)
    (h0 : TapOf wt 384 0 w0) (h1 : TapOf wt 384 1 w1) (h2 : TapOf wt 384 2 w2) (h3 : TapOf wt 384 3 w3) (h4 : TapOf wt 384 4 w4) (h5 : TapOf wt 384 5 w5)
    (h6 : TapOf wt 384 6 w6) (h7 : TapOf wt 384 7 w7) (h8 : TapOf wt 384 8 w8) (h9 : TapOf wt 384 9 w9) (h10 : TapOf wt 384 10 w10)
    (h11 : TapOf wt 384 11 w11) (h12 : TapOf wt 384 12 w12) (h13 : TapOf wt 384 13 w13) (h14 : TapOf wt 384 14 w14) (h15 : TapOf wt 384 15 w15)
    (h16 : TapOf wt 384 16 w16) (h17 : TapOf wt 384 17 w17) (h18 : TapOf wt 384 18 w18) (h19 : TapOf wt 384 19 w19) (h20 : TapOf wt 384 20 w20)
    (h21 : TapOf wt 384 21 w21) (h22 : TapOf wt 384 22 w22) (h23 : TapOf wt 384 23 w23) (h24 : TapOf wt 384 24 w24) (h25 : TapOf wt 384 25 w25)
    (h26 : TapOf wt 384 26 w26) (h27 : TapOf wt 384 27 w27) (h28 : TapOf wt 384 28 w28) (h29 : TapOf wt 384 29 w29) (h30 : TapOf wt 384 30 w30)
    (h31 : TapOf wt 384 31 w31) (h32 : TapOf wt 384 32 w32) (h33 : TapOf wt 384 33 w33) (h34 : TapOf wt 384 34 w34) (h35 : RawTapOf wt 384 35 w35)
    (h36 : RawTapOf wt 384 36 w36) (h37 : RawTapOf wt 384 37 w37) (hb : BiasOf bi 384 b) :
    ∀ p ∈ pb_k0_t4 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t4_loop.lb k0_t4_loop.ub k0_t4_loop.st),
      ∀ x : p.1.shape.Idx, p.2 x = convAt wt bi (arg12.view.read (Elt Ideal) X_arg12) (p.1.emb x) := by
  refine loop_pieces (pb_k0_t4_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t4 trip_k0_t4
  dsimp only
  intro p hp
  simp only [List.mem_cons, List.not_mem_nil, or_false] at hp
  rcases hp with rfl | rfl
  all_goals
    intro x
    dsimp only
    simp only [trip_k0_t4.sl.r_1, trip_k0_t4.sl.r_2, trip_k0_t4.sl.r_3, trip_k0_t4.sl.r_4, trip_k0_t4.sl.r_5, trip_k0_t4.sl.r_6, trip_k0_t4.sl.r_7,
      trip_k0_t4.sl.r_8, trip_k0_t4.sl.r_9, trip_k0_t4.sl.r_10, trip_k0_t4.sl.r_11, trip_k0_t4.sl.r_12, trip_k0_t4.sl.r_13, trip_k0_t4.sl.r_14,
      trip_k0_t4.sl.r_15, trip_k0_t4.sl.r_16, trip_k0_t4.sl.r_17, trip_k0_t4.sl.r_18, trip_k0_t4.sl.r_19]
    pointwise [k0_pay152, k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190,
      k0_pay191, k0_pay192, k0_pay193, k0_pay194, k0_pay195, k0_pay196, k0_pay197, k0_pay198, k0_pay199, k0_pay200, k0_pay201, k0_pay564, k0_pay565,
      k0_pay566, k0_pay567, k0_pay568, k0_pay569]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 384 (by simp only [ClosedOff.form, Matrix.cons_val]; omega) rfl]
      | rw [convAt_block _ _ _ _ _ _ (2 * k.val + 1) 384 (by simp only [ClosedOff.form, Matrix.cons_val]; omega) rfl]
    simp only [runSum]
    iterate 38 refine tap_congr ?_ ?_ ?_
    all_goals first
      | rfl
      | exact hb _
      | (pointwise [k0_pay567]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

end Cert.OddIdeal.Hand

end
-- ==== Proof.Odd.Lanes3.lean ====
/- The convolution loops of the lane tiles at columns 512 and 640. -/
module

public import proofs.«01_k».proof.Proof.Odd.Conv

@[expose] public section

set_option maxRecDepth 16384

noncomputable section

namespace Cert.OddIdeal.Hand

open Cert.OddIdeal Cert.OddIdeal.Gen
open Idealize.ShloMosaic Idealize.ShloMosaic.TcCoe Idealize.SL.Sem

variable (𝒱 : Variants)
  (c : Dev nD)
  (bd : Option 𝒱.V)
  (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S38x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S68x8x1024 .f32) (harg12 : arg12.IsWhole)
  (arg13 : Memref sig .tc .vmem S512x1024 .f32) (harg13 : arg13.IsWhole)
  (X_arg12 : BufTy.Contents (Elt Ideal) arg12.view.ty)
  (wt : Vec Ideal S38x8x1024 .f32) (bi : Vec Ideal S1x1024 .f32)

set_option maxHeartbeats 1600000 in
/-- Every piece the loop of the lane tile at column 512 stores is the convolution there. -/
theorem lanes5 (w0 w1 w2 w3 w4 w5 w6 w7 w8 w9 w10 w11 w12 w13 w14 w15 w16 w17 w18 w19 w20 w21 w22 w23 w24 w25 w26 w27 w28 w29 w30 : FVec Ideal S8x128 .f32)
    (w31 w32 w33 w34 w35 w36 w37 : Vec Ideal S1x8x128 .f32) (b : Vec Ideal S1x128 .f32)
    (h0 : TapOf wt 512 0 w0) (h1 : TapOf wt 512 1 w1) (h2 : TapOf wt 512 2 w2) (h3 : TapOf wt 512 3 w3) (h4 : TapOf wt 512 4 w4) (h5 : TapOf wt 512 5 w5)
    (h6 : TapOf wt 512 6 w6) (h7 : TapOf wt 512 7 w7) (h8 : TapOf wt 512 8 w8) (h9 : TapOf wt 512 9 w9) (h10 : TapOf wt 512 10 w10)
    (h11 : TapOf wt 512 11 w11) (h12 : TapOf wt 512 12 w12) (h13 : TapOf wt 512 13 w13) (h14 : TapOf wt 512 14 w14) (h15 : TapOf wt 512 15 w15)
    (h16 : TapOf wt 512 16 w16) (h17 : TapOf wt 512 17 w17) (h18 : TapOf wt 512 18 w18) (h19 : TapOf wt 512 19 w19) (h20 : TapOf wt 512 20 w20)
    (h21 : TapOf wt 512 21 w21) (h22 : TapOf wt 512 22 w22) (h23 : TapOf wt 512 23 w23) (h24 : TapOf wt 512 24 w24) (h25 : TapOf wt 512 25 w25)
    (h26 : TapOf wt 512 26 w26) (h27 : TapOf wt 512 27 w27) (h28 : TapOf wt 512 28 w28) (h29 : TapOf wt 512 29 w29) (h30 : TapOf wt 512 30 w30)
    (h31 : RawTapOf wt 512 31 w31) (h32 : RawTapOf wt 512 32 w32) (h33 : RawTapOf wt 512 33 w33) (h34 : RawTapOf wt 512 34 w34)
    (h35 : RawTapOf wt 512 35 w35) (h36 : RawTapOf wt 512 36 w36) (h37 : RawTapOf wt 512 37 w37) (hb : BiasOf bi 512 b) :
    ∀ p ∈ pb_k0_t5 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t5_loop.lb k0_t5_loop.ub k0_t5_loop.st),
      ∀ x : p.1.shape.Idx, p.2 x = convAt wt bi (arg12.view.read (Elt Ideal) X_arg12) (p.1.emb x) := by
  refine loop_pieces (pb_k0_t5_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t5 trip_k0_t5
  dsimp only
  intro p hp
  simp only [List.mem_cons, List.not_mem_nil, or_false] at hp
  rcases hp with rfl | rfl
  all_goals
    intro x
    dsimp only
    simp only [trip_k0_t5.sl.r_1, trip_k0_t5.sl.r_2, trip_k0_t5.sl.r_3, trip_k0_t5.sl.r_4, trip_k0_t5.sl.r_5, trip_k0_t5.sl.r_6, trip_k0_t5.sl.r_7,
      trip_k0_t5.sl.r_8, trip_k0_t5.sl.r_9, trip_k0_t5.sl.r_10, trip_k0_t5.sl.r_11, trip_k0_t5.sl.r_12, trip_k0_t5.sl.r_13, trip_k0_t5.sl.r_14,
      trip_k0_t5.sl.r_15, trip_k0_t5.sl.r_16, trip_k0_t5.sl.r_17, trip_k0_t5.sl.r_18, trip_k0_t5.sl.r_19]
    pointwise [k0_pay202, k0_pay203, k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239, k0_pay240,
      k0_pay241, k0_pay242, k0_pay243, k0_pay244, k0_pay245, k0_pay246, k0_pay247, k0_pay248, k0_pay249, k0_pay250, k0_pay251, k0_pay601, k0_pay602,
      k0_pay603, k0_pay604, k0_pay605, k0_pay606, k0_pay607, k0_pay608, k0_pay609, k0_pay610]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 512 (by simp only [ClosedOff.form, Matrix.cons_val]; omega) rfl]
      | rw [convAt_block _ _ _ _ _ _ (2 * k.val + 1) 512 (by simp only [ClosedOff.form, Matrix.cons_val]; omega) rfl]
    simp only [runSum]
    iterate 38 refine tap_congr ?_ ?_ ?_
    all_goals first
      | rfl
      | exact hb _
      | (pointwise [k0_pay608]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

set_option maxHeartbeats 1600000 in
/-- Every piece the loop of the lane tile at column 640 stores is the convolution there. -/
theorem lanes6 (w0 w1 w2 w3 w4 w5 w6 w7 w8 w9 w10 w11 w12 w13 w14 w15 w16 w17 w18 w19 w20 w21 w22 w23 w24 w25 w26 w27 w28 w29 w30 w31 w32 w33 w34 w35 w36 w37 : FVec Ideal S8x128 .f32)
    (b : FVec Ideal S1x128 .f32)
    (h0 : TapOf wt 640 0 w0) (h1 : TapOf wt 640 1 w1) (h2 : TapOf wt 640 2 w2) (h3 : TapOf wt 640 3 w3) (h4 : TapOf wt 640 4 w4) (h5 : TapOf wt 640 5 w5)
    (h6 : TapOf wt 640 6 w6) (h7 : TapOf wt 640 7 w7) (h8 : TapOf wt 640 8 w8) (h9 : TapOf wt 640 9 w9) (h10 : TapOf wt 640 10 w10)
    (h11 : TapOf wt 640 11 w11) (h12 : TapOf wt 640 12 w12) (h13 : TapOf wt 640 13 w13) (h14 : TapOf wt 640 14 w14) (h15 : TapOf wt 640 15 w15)
    (h16 : TapOf wt 640 16 w16) (h17 : TapOf wt 640 17 w17) (h18 : TapOf wt 640 18 w18) (h19 : TapOf wt 640 19 w19) (h20 : TapOf wt 640 20 w20)
    (h21 : TapOf wt 640 21 w21) (h22 : TapOf wt 640 22 w22) (h23 : TapOf wt 640 23 w23) (h24 : TapOf wt 640 24 w24) (h25 : TapOf wt 640 25 w25)
    (h26 : TapOf wt 640 26 w26) (h27 : TapOf wt 640 27 w27) (h28 : TapOf wt 640 28 w28) (h29 : TapOf wt 640 29 w29) (h30 : TapOf wt 640 30 w30)
    (h31 : TapOf wt 640 31 w31) (h32 : TapOf wt 640 32 w32) (h33 : TapOf wt 640 33 w33) (h34 : TapOf wt 640 34 w34) (h35 : TapOf wt 640 35 w35)
    (h36 : TapOf wt 640 36 w36) (h37 : TapOf wt 640 37 w37) (hb : BiasOf bi 640 b) :
    ∀ p ∈ pb_k0_t6 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t6_loop.lb k0_t6_loop.ub k0_t6_loop.st),
      ∀ x : p.1.shape.Idx, p.2 x = convAt wt bi (arg12.view.read (Elt Ideal) X_arg12) (p.1.emb x) := by
  refine loop_pieces (pb_k0_t6_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t6 trip_k0_t6
  dsimp only
  intro p hp
  simp only [List.mem_cons, List.not_mem_nil, or_false] at hp
  rcases hp with rfl | rfl
  all_goals
    intro x
    dsimp only
    simp only [trip_k0_t6.sl.r_1, trip_k0_t6.sl.r_2, trip_k0_t6.sl.r_3, trip_k0_t6.sl.r_4, trip_k0_t6.sl.r_5, trip_k0_t6.sl.r_6, trip_k0_t6.sl.r_7,
      trip_k0_t6.sl.r_8, trip_k0_t6.sl.r_9, trip_k0_t6.sl.r_10, trip_k0_t6.sl.r_11, trip_k0_t6.sl.r_12, trip_k0_t6.sl.r_13, trip_k0_t6.sl.r_14,
      trip_k0_t6.sl.r_15, trip_k0_t6.sl.r_16, trip_k0_t6.sl.r_17, trip_k0_t6.sl.r_18, trip_k0_t6.sl.r_19]
    pointwise [k0_pay252, k0_pay253, k0_pay254, k0_pay255, k0_pay256, k0_pay257, k0_pay258, k0_pay259, k0_pay260, k0_pay261, k0_pay262, k0_pay263, k0_pay264,
      k0_pay265, k0_pay266, k0_pay267, k0_pay268, k0_pay269, k0_pay270, k0_pay271, k0_pay272, k0_pay273, k0_pay274, k0_pay275, k0_pay276, k0_pay277,
      k0_pay278, k0_pay279, k0_pay280, k0_pay281, k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299, k0_pay300, k0_pay301, k0_pay650, k0_pay651,
      k0_pay652]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 640 (by simp only [ClosedOff.form, Matrix.cons_val]; omega) rfl]
      | rw [convAt_block _ _ _ _ _ _ (2 * k.val + 1) 640 (by simp only [ClosedOff.form, Matrix.cons_val]; omega) rfl]
    simp only [runSum]
    iterate 38 refine tap_congr ?_ ?_ ?_
    all_goals first
      | rfl
      | exact hb _
      | (pointwise [k0_pay650]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

end Cert.OddIdeal.Hand

end
-- ==== Proof.Odd.Lanes4.lean ====
/- The convolution loops of the lane tiles at columns 768 and 896. -/
module

public import proofs.«01_k».proof.Proof.Odd.Conv

@[expose] public section

set_option maxRecDepth 16384

noncomputable section

namespace Cert.OddIdeal.Hand

open Cert.OddIdeal Cert.OddIdeal.Gen
open Idealize.ShloMosaic Idealize.ShloMosaic.TcCoe Idealize.SL.Sem

variable (𝒱 : Variants)
  (c : Dev nD)
  (bd : Option 𝒱.V)
  (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S38x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S68x8x1024 .f32) (harg12 : arg12.IsWhole)
  (arg13 : Memref sig .tc .vmem S512x1024 .f32) (harg13 : arg13.IsWhole)
  (X_arg12 : BufTy.Contents (Elt Ideal) arg12.view.ty)
  (wt : Vec Ideal S38x8x1024 .f32) (bi : Vec Ideal S1x1024 .f32)

set_option maxHeartbeats 1600000 in
/-- Every piece the loop of the lane tile at column 768 stores is the convolution there. -/
theorem lanes7 (w0 w1 w2 w3 w4 w5 w6 w7 w8 w9 w10 w11 w12 w13 w14 w15 w16 w17 w18 w19 w20 w21 w22 w23 w24 w25 w26 w27 w28 w29 w30 w31 w32 w33 : FVec Ideal S8x128 .f32)
    (w34 w35 w36 w37 : Vec Ideal S1x8x128 .f32) (b : Vec Ideal S1x128 .f32)
    (h0 : TapOf wt 768 0 w0) (h1 : TapOf wt 768 1 w1) (h2 : TapOf wt 768 2 w2) (h3 : TapOf wt 768 3 w3) (h4 : TapOf wt 768 4 w4) (h5 : TapOf wt 768 5 w5)
    (h6 : TapOf wt 768 6 w6) (h7 : TapOf wt 768 7 w7) (h8 : TapOf wt 768 8 w8) (h9 : TapOf wt 768 9 w9) (h10 : TapOf wt 768 10 w10)
    (h11 : TapOf wt 768 11 w11) (h12 : TapOf wt 768 12 w12) (h13 : TapOf wt 768 13 w13) (h14 : TapOf wt 768 14 w14) (h15 : TapOf wt 768 15 w15)
    (h16 : TapOf wt 768 16 w16) (h17 : TapOf wt 768 17 w17) (h18 : TapOf wt 768 18 w18) (h19 : TapOf wt 768 19 w19) (h20 : TapOf wt 768 20 w20)
    (h21 : TapOf wt 768 21 w21) (h22 : TapOf wt 768 22 w22) (h23 : TapOf wt 768 23 w23) (h24 : TapOf wt 768 24 w24) (h25 : TapOf wt 768 25 w25)
    (h26 : TapOf wt 768 26 w26) (h27 : TapOf wt 768 27 w27) (h28 : TapOf wt 768 28 w28) (h29 : TapOf wt 768 29 w29) (h30 : TapOf wt 768 30 w30)
    (h31 : TapOf wt 768 31 w31) (h32 : TapOf wt 768 32 w32) (h33 : TapOf wt 768 33 w33) (h34 : RawTapOf wt 768 34 w34) (h35 : RawTapOf wt 768 35 w35)
    (h36 : RawTapOf wt 768 36 w36) (h37 : RawTapOf wt 768 37 w37) (hb : BiasOf bi 768 b) :
    ∀ p ∈ pb_k0_t7 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t7_loop.lb k0_t7_loop.ub k0_t7_loop.st),
      ∀ x : p.1.shape.Idx, p.2 x = convAt wt bi (arg12.view.read (Elt Ideal) X_arg12) (p.1.emb x) := by
  refine loop_pieces (pb_k0_t7_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t7 trip_k0_t7
  dsimp only
  intro p hp
  simp only [List.mem_cons, List.not_mem_nil, or_false] at hp
  rcases hp with rfl | rfl
  all_goals
    intro x
    dsimp only
    simp only [trip_k0_t7.sl.r_1, trip_k0_t7.sl.r_2, trip_k0_t7.sl.r_3, trip_k0_t7.sl.r_4, trip_k0_t7.sl.r_5, trip_k0_t7.sl.r_6, trip_k0_t7.sl.r_7,
      trip_k0_t7.sl.r_8, trip_k0_t7.sl.r_9, trip_k0_t7.sl.r_10, trip_k0_t7.sl.r_11, trip_k0_t7.sl.r_12, trip_k0_t7.sl.r_13, trip_k0_t7.sl.r_14,
      trip_k0_t7.sl.r_15, trip_k0_t7.sl.r_16, trip_k0_t7.sl.r_17, trip_k0_t7.sl.r_18, trip_k0_t7.sl.r_19]
    pointwise [k0_pay302, k0_pay303, k0_pay304, k0_pay305, k0_pay306, k0_pay307, k0_pay308, k0_pay309, k0_pay310, k0_pay311, k0_pay312, k0_pay313, k0_pay314,
      k0_pay315, k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349, k0_pay350, k0_pay351, k0_pay687, k0_pay688,
      k0_pay689, k0_pay690, k0_pay691, k0_pay692, k0_pay693]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 768 (by simp only [ClosedOff.form, Matrix.cons_val]; omega) rfl]
      | rw [convAt_block _ _ _ _ _ _ (2 * k.val + 1) 768 (by simp only [ClosedOff.form, Matrix.cons_val]; omega) rfl]
    simp only [runSum]
    iterate 38 refine tap_congr ?_ ?_ ?_
    all_goals first
      | rfl
      | exact hb _
      | (pointwise [k0_pay691]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

set_option maxHeartbeats 1600000 in
/-- Every piece the loop of the lane tile at column 896 stores is the convolution there. -/
theorem lanes8 (w0 w1 w2 w3 w4 w5 w6 w7 w8 w9 w10 w11 w12 w13 w14 w15 w16 w17 w18 w19 w20 w21 w22 w23 w24 w25 w26 w27 w28 w29 : FVec Ideal S8x128 .f32)
    (w30 w31 w32 w33 w34 w35 w36 w37 : Vec Ideal S1x8x128 .f32) (b : Vec Ideal S1x128 .f32)
    (h0 : TapOf wt 896 0 w0) (h1 : TapOf wt 896 1 w1) (h2 : TapOf wt 896 2 w2) (h3 : TapOf wt 896 3 w3) (h4 : TapOf wt 896 4 w4) (h5 : TapOf wt 896 5 w5)
    (h6 : TapOf wt 896 6 w6) (h7 : TapOf wt 896 7 w7) (h8 : TapOf wt 896 8 w8) (h9 : TapOf wt 896 9 w9) (h10 : TapOf wt 896 10 w10)
    (h11 : TapOf wt 896 11 w11) (h12 : TapOf wt 896 12 w12) (h13 : TapOf wt 896 13 w13) (h14 : TapOf wt 896 14 w14) (h15 : TapOf wt 896 15 w15)
    (h16 : TapOf wt 896 16 w16) (h17 : TapOf wt 896 17 w17) (h18 : TapOf wt 896 18 w18) (h19 : TapOf wt 896 19 w19) (h20 : TapOf wt 896 20 w20)
    (h21 : TapOf wt 896 21 w21) (h22 : TapOf wt 896 22 w22) (h23 : TapOf wt 896 23 w23) (h24 : TapOf wt 896 24 w24) (h25 : TapOf wt 896 25 w25)
    (h26 : TapOf wt 896 26 w26) (h27 : TapOf wt 896 27 w27) (h28 : TapOf wt 896 28 w28) (h29 : TapOf wt 896 29 w29) (h30 : RawTapOf wt 896 30 w30)
    (h31 : RawTapOf wt 896 31 w31) (h32 : RawTapOf wt 896 32 w32) (h33 : RawTapOf wt 896 33 w33) (h34 : RawTapOf wt 896 34 w34)
    (h35 : RawTapOf wt 896 35 w35) (h36 : RawTapOf wt 896 36 w36) (h37 : RawTapOf wt 896 37 w37) (hb : BiasOf bi 896 b) :
    ∀ p ∈ pb_k0_t8 (F := Ideal) 𝒱 c bd i arg2 harg2 arg3 harg3 arg4 harg4 arg5 harg5 arg6 harg6 arg7 harg7 arg8 harg8 arg9 harg9 arg10 harg10 arg11 harg11 arg12 harg12 arg13 harg13
        w0 w1 w2 w3 w4 w5 w6 w7 w8 w9 w10 w11 w12 w13 w14 w15 w16 w17 w18 w19 w20 w21 w22 w23 w24 w25 w26 w27 w28 w29 w30 w31 w32 w33 w34 w35 w36 w37 b X_arg12 (Scf.trips k0_t8_loop.lb k0_t8_loop.ub k0_t8_loop.st),
      ∀ x : p.1.shape.Idx, p.2 x = convAt wt bi (arg12.view.read (Elt Ideal) X_arg12) (p.1.emb x) := by
  refine loop_pieces (pb_k0_t8_succ (F := Ideal) 𝒱 c bd i arg2 harg2 arg3 harg3 arg4 harg4 arg5 harg5 arg6 harg6 arg7 harg7 arg8 harg8 arg9 harg9 arg10 harg10 arg11 harg11 arg12 harg12 arg13 harg13
    w0 w1 w2 w3 w4 w5 w6 w7 w8 w9 w10 w11 w12 w13 w14 w15 w16 w17 w18 w19 w20 w21 w22 w23 w24 w25 w26 w27 w28 w29 w30 w31 w32 w33 w34 w35 w36 w37 b X_arg12) rfl fun k => ?_
  unfold tripL_k0_t8 trip_k0_t8
  dsimp only
  intro p hp
  simp only [List.mem_cons, List.not_mem_nil, or_false] at hp
  rcases hp with rfl | rfl
  all_goals
    intro x
    dsimp only
    simp only [trip_k0_t8.sl.r_1, trip_k0_t8.sl.r_2, trip_k0_t8.sl.r_3, trip_k0_t8.sl.r_4, trip_k0_t8.sl.r_5, trip_k0_t8.sl.r_6, trip_k0_t8.sl.r_7,
      trip_k0_t8.sl.r_8, trip_k0_t8.sl.r_9, trip_k0_t8.sl.r_10, trip_k0_t8.sl.r_11, trip_k0_t8.sl.r_12, trip_k0_t8.sl.r_13, trip_k0_t8.sl.r_14,
      trip_k0_t8.sl.r_15, trip_k0_t8.sl.r_16, trip_k0_t8.sl.r_17, trip_k0_t8.sl.r_18, trip_k0_t8.sl.r_19]
    pointwise [k0_pay352, k0_pay353, k0_pay354, k0_pay355, k0_pay356, k0_pay357, k0_pay358, k0_pay359, k0_pay360, k0_pay361, k0_pay362, k0_pay363, k0_pay364,
      k0_pay365, k0_pay366, k0_pay367, k0_pay368, k0_pay369, k0_pay370, k0_pay371, k0_pay372, k0_pay373, k0_pay374, k0_pay375, k0_pay376, k0_pay377,
      k0_pay378, k0_pay379, k0_pay380, k0_pay381, k0_pay382, k0_pay383, k0_pay384, k0_pay385, k0_pay386, k0_pay387, k0_pay388, k0_pay389, k0_pay390,
      k0_pay391, k0_pay392, k0_pay393, k0_pay394, k0_pay395, k0_pay396, k0_pay397, k0_pay398, k0_pay399, k0_pay400, k0_pay401, k0_pay724, k0_pay725,
      k0_pay726, k0_pay727, k0_pay728, k0_pay729, k0_pay730, k0_pay731, k0_pay732, k0_pay733, k0_pay734]
    simp only [h0, h1, h2, h3, h4, h5, h6, h7, h8, h9, h10, h11, h12, h13, h14, h15, h16, h17, h18, h19, h20, h21, h22, h23, h24, h25, h26, h27, h28, h29, h30, h31,
      h32, h33, h34, h35, h36, h37, hb]
    first
      | rw [convAt_block _ _ _ _ _ _ (2 * k.val) 896 (by simp only [ClosedOff.form, Matrix.cons_val]; omega) rfl]
      | rw [convAt_block _ _ _ _ _ _ (2 * k.val + 1) 896 (by simp only [ClosedOff.form, Matrix.cons_val]; omega) rfl]
    simp only [runSum]
    iterate 38 refine tap_congr ?_ ?_ ?_
    all_goals first
      | rfl
      | exact hb _
      | (pointwise [k0_pay732]; exact hb _)
      | exact h0 _
      | exact h1 _
      | exact h2 _
      | exact h3 _
      | exact h4 _
      | (pointwise []; apply readAt_haloRow <;> first | rfl | (simp only [ClosedOff.form, Matrix.cons_val]; omega))
      | (apply readAt_haloRow <;> first | rfl | (simp only [ClosedOff.form, Matrix.cons_val]; omega))

end Cert.OddIdeal.Hand

end
-- ==== Proof.Odd.Loads.lean ====
/- The same eight loops over the tap vectors and bias rows the body loads. -/
module

public import proofs.«01_k».proof.Proof.Odd.Halo
public import proofs.«01_k».proof.Proof.Odd.Lanes1
public import proofs.«01_k».proof.Proof.Odd.Lanes2
public import proofs.«01_k».proof.Proof.Odd.Lanes3
public import proofs.«01_k».proof.Proof.Odd.Lanes4

@[expose] public section

set_option maxRecDepth 16384

noncomputable section

namespace Cert.OddIdeal.Hand

open Cert.OddIdeal Cert.OddIdeal.Gen
open Idealize.ShloMosaic Idealize.ShloMosaic.TcCoe Idealize.SL.Sem

variable (𝒱 : Variants)
  (c : Dev nD)
  (bd : Option 𝒱.V)
  (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S38x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .bf16) (harg9 : arg9.IsWhole)
  (arg10 : Memref sig .tc .vmem S1x1024 .f32) (harg10 : arg10.IsWhole)
  (arg11 : Memref sig .tc .vmem S1x512x1024 .f32) (harg11 : arg11.IsWhole)
  (arg12 : Memref sig .tc .vmem S68x8x1024 .f32) (harg12 : arg12.IsWhole)
  (arg13 : Memref sig .tc .vmem S512x1024 .f32) (harg13 : arg13.IsWhole)
  (X_arg12 : BufTy.Contents (Elt Ideal) arg12.view.ty)
  (x3 : Vec Ideal S38x8x1024 .f32) (x4 : Vec Ideal S1x1024 .f32)

theorem tap_inb (c0 j : ℕ) (hj : j < 38) (hc : c0 + 128 ≤ 1024) :
    ∀ a : Fin 3, (![j, 0, c0] : Fin 3 → ℕ) a + (![1, 8, 128] : Fin 3 → ℕ) a ≤ (![38, 8, 1024] : Fin 3 → ℕ) a := by
  intro a
  fin_cases a
  · exact hj
  · exact le_rfl
  · exact hc

theorem bias_inb (c0 : ℕ) (hc : c0 + 128 ≤ 1024) :
    ∀ a : Fin 2, (![0, c0] : Fin 2 → ℕ) a + (![1, 128] : Fin 2 → ℕ) a ≤ (![1, 1024] : Fin 2 → ℕ) a := by
  intro a
  fin_cases a
  · exact le_rfl
  · exact hc

/-- Tap `j` of column block `c0`, as loaded. -/
def tapRaw (c0 j : ℕ) (hj : j < 38 := by decide) (hc : c0 + 128 ≤ 1024 := by decide) : Vec Ideal S1x8x128 .f32 :=
  View.readAt (Elt Ideal) arg5.view (Rect.unit (s := S38x8x1024) ![j, 0, c0] S1x8x128.size (tap_inb c0 j hj hc)).toLoadRect (harg5.unread x3)

/-- The same as eight rows. -/
def tapRows (c0 j : ℕ) (hj : j < 38 := by decide) (hc : c0 + 128 ≤ 1024 := by decide) : FVec Ideal S8x128 .f32 :=
  shapeCast S8x128 (tapRaw arg5 harg5 x3 c0 j hj hc) shapeCasts_S1x8x128_S8x128

/-- The bias row of column block `c0`, as loaded. -/
def biasRaw (c0 : ℕ) (hc : c0 + 128 ≤ 1024 := by decide) : Vec Ideal S1x128 .f32 :=
  View.readAt (Elt Ideal) arg6.view (Rect.unit (s := S1x1024) ![0, c0] S1x128.size (bias_inb c0 hc)).toLoadRect (harg6.unread x4)

theorem tapRaw_of (c0 j : ℕ) (hj : j < 38) (hc : c0 + 128 ≤ 1024) : RawTapOf x3 c0 j (tapRaw arg5 harg5 x3 c0 j hj hc) :=
  rawTap_load arg5 harg5 x3 j c0 _ hj hc

theorem tapRows_of (c0 j : ℕ) (hj : j < 38) (hc : c0 + 128 ≤ 1024) : TapOf x3 c0 j (tapRows arg5 harg5 x3 c0 j hj hc) :=
  tap_of_raw x3 c0 j _ (tapRaw_of arg5 harg5 x3 c0 j hj hc)

theorem biasRaw_of (c0 : ℕ) (hc : c0 + 128 ≤ 1024) : BiasOf x4 c0 (biasRaw arg6 harg6 x4 c0 hc) := bias_load arg6 harg6 x4 c0 _ hc

theorem loads1 :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 0 0) (tapRows arg5 harg5 x3 0 1) (tapRows arg5 harg5 x3 0 2) (tapRows arg5 harg5 x3 0 3)
        (tapRows arg5 harg5 x3 0 4) (tapRows arg5 harg5 x3 0 5) (tapRows arg5 harg5 x3 0 6) (tapRows arg5 harg5 x3 0 7)
        (tapRows arg5 harg5 x3 0 8) (tapRows arg5 harg5 x3 0 9) (tapRows arg5 harg5 x3 0 10) (tapRows arg5 harg5 x3 0 11)
        (tapRows arg5 harg5 x3 0 12) (tapRows arg5 harg5 x3 0 13) (tapRows arg5 harg5 x3 0 14) (tapRows arg5 harg5 x3 0 15)
        (tapRows arg5 harg5 x3 0 16) (tapRows arg5 harg5 x3 0 17) (tapRows arg5 harg5 x3 0 18) (tapRows arg5 harg5 x3 0 19)
        (tapRows arg5 harg5 x3 0 20) (tapRows arg5 harg5 x3 0 21) (tapRows arg5 harg5 x3 0 22) (tapRows arg5 harg5 x3 0 23)
        (tapRows arg5 harg5 x3 0 24) (tapRows arg5 harg5 x3 0 25) (tapRows arg5 harg5 x3 0 26) (tapRows arg5 harg5 x3 0 27)
        (tapRows arg5 harg5 x3 0 28) (tapRows arg5 harg5 x3 0 29) (tapRows arg5 harg5 x3 0 30) (tapRows arg5 harg5 x3 0 31)
        (tapRows arg5 harg5 x3 0 32) (tapRows arg5 harg5 x3 0 33) (tapRows arg5 harg5 x3 0 34) (tapRows arg5 harg5 x3 0 35)
        (tapRows arg5 harg5 x3 0 36) (tapRaw arg5 harg5 x3 0 37) (biasRaw arg6 harg6 x4 0) X_arg12
        (Scf.trips k0_t1_loop.lb k0_t1_loop.ub k0_t1_loop.st),
      ∀ x : p.1.shape.Idx, p.2 x = convAt x3 x4 (arg12.view.read (Elt Ideal) X_arg12) (p.1.emb x) := by
  apply lanes1
  iterate 37 exact tapRows_of _ _ _ _ _ _ _
  iterate 1 exact tapRaw_of _ _ _ _ _ _ _
  exact biasRaw_of _ _ _ _ _

theorem loads2 :
    ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 128 0) (tapRows arg5 harg5 x3 128 1) (tapRows arg5 harg5 x3 128 2) (tapRows arg5 harg5 x3 128 3)
        (tapRows arg5 harg5 x3 128 4) (tapRows arg5 harg5 x3 128 5) (tapRows arg5 harg5 x3 128 6) (tapRows arg5 harg5 x3 128 7)
        (tapRows arg5 harg5 x3 128 8) (tapRows arg5 harg5 x3 128 9) (tapRows arg5 harg5 x3 128 10) (tapRows arg5 harg5 x3 128 11)
        (tapRows arg5 harg5 x3 128 12) (tapRows arg5 harg5 x3 128 13) (tapRows arg5 harg5 x3 128 14) (tapRows arg5 harg5 x3 128 15)
        (tapRows arg5 harg5 x3 128 16) (tapRows arg5 harg5 x3 128 17) (tapRows arg5 harg5 x3 128 18) (tapRows arg5 harg5 x3 128 19)
        (tapRows arg5 harg5 x3 128 20) (tapRows arg5 harg5 x3 128 21) (tapRows arg5 harg5 x3 128 22) (tapRows arg5 harg5 x3 128 23)
        (tapRows arg5 harg5 x3 128 24) (tapRows arg5 harg5 x3 128 25) (tapRows arg5 harg5 x3 128 26) (tapRows arg5 harg5 x3 128 27)
        (tapRows arg5 harg5 x3 128 28) (tapRows arg5 harg5 x3 128 29) (tapRows arg5 harg5 x3 128 30) (tapRows arg5 harg5 x3 128 31)
        (tapRaw arg5 harg5 x3 128 32) (tapRaw arg5 harg5 x3 128 33) (tapRaw arg5 harg5 x3 128 34) (tapRaw arg5 harg5 x3 128 35)
        (tapRaw arg5 harg5 x3 128 36) (tapRaw arg5 harg5 x3 128 37) (biasRaw arg6 harg6 x4 128) X_arg12
        (Scf.trips k0_t2_loop.lb k0_t2_loop.ub k0_t2_loop.st),
      ∀ x : p.1.shape.Idx, p.2 x = convAt x3 x4 (arg12.view.read (Elt Ideal) X_arg12) (p.1.emb x) := by
  apply lanes2
  iterate 32 exact tapRows_of _ _ _ _ _ _ _
  iterate 6 exact tapRaw_of _ _ _ _ _ _ _
  exact biasRaw_of _ _ _ _ _

theorem loads3 :
    ∀ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 256 0) (tapRows arg5 harg5 x3 256 1) (tapRows arg5 harg5 x3 256 2) (tapRows arg5 harg5 x3 256 3)
        (tapRows arg5 harg5 x3 256 4) (tapRows arg5 harg5 x3 256 5) (tapRows arg5 harg5 x3 256 6) (tapRows arg5 harg5 x3 256 7)
        (tapRows arg5 harg5 x3 256 8) (tapRows arg5 harg5 x3 256 9) (tapRows arg5 harg5 x3 256 10) (tapRows arg5 harg5 x3 256 11)
        (tapRows arg5 harg5 x3 256 12) (tapRows arg5 harg5 x3 256 13) (tapRows arg5 harg5 x3 256 14) (tapRows arg5 harg5 x3 256 15)
        (tapRows arg5 harg5 x3 256 16) (tapRows arg5 harg5 x3 256 17) (tapRows arg5 harg5 x3 256 18) (tapRows arg5 harg5 x3 256 19)
        (tapRows arg5 harg5 x3 256 20) (tapRows arg5 harg5 x3 256 21) (tapRows arg5 harg5 x3 256 22) (tapRows arg5 harg5 x3 256 23)
        (tapRows arg5 harg5 x3 256 24) (tapRows arg5 harg5 x3 256 25) (tapRows arg5 harg5 x3 256 26) (tapRows arg5 harg5 x3 256 27)
        (tapRaw arg5 harg5 x3 256 28) (tapRaw arg5 harg5 x3 256 29) (tapRaw arg5 harg5 x3 256 30) (tapRaw arg5 harg5 x3 256 31)
        (tapRaw arg5 harg5 x3 256 32) (tapRaw arg5 harg5 x3 256 33) (tapRaw arg5 harg5 x3 256 34) (tapRaw arg5 harg5 x3 256 35)
        (tapRaw arg5 harg5 x3 256 36) (tapRaw arg5 harg5 x3 256 37) (biasRaw arg6 harg6 x4 256) X_arg12
        (Scf.trips k0_t3_loop.lb k0_t3_loop.ub k0_t3_loop.st),
      ∀ x : p.1.shape.Idx, p.2 x = convAt x3 x4 (arg12.view.read (Elt Ideal) X_arg12) (p.1.emb x) := by
  apply lanes3
  iterate 28 exact tapRows_of _ _ _ _ _ _ _
  iterate 10 exact tapRaw_of _ _ _ _ _ _ _
  exact biasRaw_of _ _ _ _ _

theorem loads4 :
    ∀ p ∈ pb_k0_t4 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 384 0) (tapRows arg5 harg5 x3 384 1) (tapRows arg5 harg5 x3 384 2) (tapRows arg5 harg5 x3 384 3)
        (tapRows arg5 harg5 x3 384 4) (tapRows arg5 harg5 x3 384 5) (tapRows arg5 harg5 x3 384 6) (tapRows arg5 harg5 x3 384 7)
        (tapRows arg5 harg5 x3 384 8) (tapRows arg5 harg5 x3 384 9) (tapRows arg5 harg5 x3 384 10) (tapRows arg5 harg5 x3 384 11)
        (tapRows arg5 harg5 x3 384 12) (tapRows arg5 harg5 x3 384 13) (tapRows arg5 harg5 x3 384 14) (tapRows arg5 harg5 x3 384 15)
        (tapRows arg5 harg5 x3 384 16) (tapRows arg5 harg5 x3 384 17) (tapRows arg5 harg5 x3 384 18) (tapRows arg5 harg5 x3 384 19)
        (tapRows arg5 harg5 x3 384 20) (tapRows arg5 harg5 x3 384 21) (tapRows arg5 harg5 x3 384 22) (tapRows arg5 harg5 x3 384 23)
        (tapRows arg5 harg5 x3 384 24) (tapRows arg5 harg5 x3 384 25) (tapRows arg5 harg5 x3 384 26) (tapRows arg5 harg5 x3 384 27)
        (tapRows arg5 harg5 x3 384 28) (tapRows arg5 harg5 x3 384 29) (tapRows arg5 harg5 x3 384 30) (tapRows arg5 harg5 x3 384 31)
        (tapRows arg5 harg5 x3 384 32) (tapRows arg5 harg5 x3 384 33) (tapRows arg5 harg5 x3 384 34) (tapRaw arg5 harg5 x3 384 35)
        (tapRaw arg5 harg5 x3 384 36) (tapRaw arg5 harg5 x3 384 37) (biasRaw arg6 harg6 x4 384) X_arg12
        (Scf.trips k0_t4_loop.lb k0_t4_loop.ub k0_t4_loop.st),
      ∀ x : p.1.shape.Idx, p.2 x = convAt x3 x4 (arg12.view.read (Elt Ideal) X_arg12) (p.1.emb x) := by
  apply lanes4
  iterate 35 exact tapRows_of _ _ _ _ _ _ _
  iterate 3 exact tapRaw_of _ _ _ _ _ _ _
  exact biasRaw_of _ _ _ _ _

theorem loads5 :
    ∀ p ∈ pb_k0_t5 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 512 0) (tapRows arg5 harg5 x3 512 1) (tapRows arg5 harg5 x3 512 2) (tapRows arg5 harg5 x3 512 3)
        (tapRows arg5 harg5 x3 512 4) (tapRows arg5 harg5 x3 512 5) (tapRows arg5 harg5 x3 512 6) (tapRows arg5 harg5 x3 512 7)
        (tapRows arg5 harg5 x3 512 8) (tapRows arg5 harg5 x3 512 9) (tapRows arg5 harg5 x3 512 10) (tapRows arg5 harg5 x3 512 11)
        (tapRows arg5 harg5 x3 512 12) (tapRows arg5 harg5 x3 512 13) (tapRows arg5 harg5 x3 512 14) (tapRows arg5 harg5 x3 512 15)
        (tapRows arg5 harg5 x3 512 16) (tapRows arg5 harg5 x3 512 17) (tapRows arg5 harg5 x3 512 18) (tapRows arg5 harg5 x3 512 19)
        (tapRows arg5 harg5 x3 512 20) (tapRows arg5 harg5 x3 512 21) (tapRows arg5 harg5 x3 512 22) (tapRows arg5 harg5 x3 512 23)
        (tapRows arg5 harg5 x3 512 24) (tapRows arg5 harg5 x3 512 25) (tapRows arg5 harg5 x3 512 26) (tapRows arg5 harg5 x3 512 27)
        (tapRows arg5 harg5 x3 512 28) (tapRows arg5 harg5 x3 512 29) (tapRows arg5 harg5 x3 512 30) (tapRaw arg5 harg5 x3 512 31)
        (tapRaw arg5 harg5 x3 512 32) (tapRaw arg5 harg5 x3 512 33) (tapRaw arg5 harg5 x3 512 34) (tapRaw arg5 harg5 x3 512 35)
        (tapRaw arg5 harg5 x3 512 36) (tapRaw arg5 harg5 x3 512 37) (biasRaw arg6 harg6 x4 512) X_arg12
        (Scf.trips k0_t5_loop.lb k0_t5_loop.ub k0_t5_loop.st),
      ∀ x : p.1.shape.Idx, p.2 x = convAt x3 x4 (arg12.view.read (Elt Ideal) X_arg12) (p.1.emb x) := by
  apply lanes5
  iterate 31 exact tapRows_of _ _ _ _ _ _ _
  iterate 7 exact tapRaw_of _ _ _ _ _ _ _
  exact biasRaw_of _ _ _ _ _

theorem loads6 :
    ∀ p ∈ pb_k0_t6 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 640 0) (tapRows arg5 harg5 x3 640 1) (tapRows arg5 harg5 x3 640 2) (tapRows arg5 harg5 x3 640 3)
        (tapRows arg5 harg5 x3 640 4) (tapRows arg5 harg5 x3 640 5) (tapRows arg5 harg5 x3 640 6) (tapRows arg5 harg5 x3 640 7)
        (tapRows arg5 harg5 x3 640 8) (tapRows arg5 harg5 x3 640 9) (tapRows arg5 harg5 x3 640 10) (tapRows arg5 harg5 x3 640 11)
        (tapRows arg5 harg5 x3 640 12) (tapRows arg5 harg5 x3 640 13) (tapRows arg5 harg5 x3 640 14) (tapRows arg5 harg5 x3 640 15)
        (tapRows arg5 harg5 x3 640 16) (tapRows arg5 harg5 x3 640 17) (tapRows arg5 harg5 x3 640 18) (tapRows arg5 harg5 x3 640 19)
        (tapRows arg5 harg5 x3 640 20) (tapRows arg5 harg5 x3 640 21) (tapRows arg5 harg5 x3 640 22) (tapRows arg5 harg5 x3 640 23)
        (tapRows arg5 harg5 x3 640 24) (tapRows arg5 harg5 x3 640 25) (tapRows arg5 harg5 x3 640 26) (tapRows arg5 harg5 x3 640 27)
        (tapRows arg5 harg5 x3 640 28) (tapRows arg5 harg5 x3 640 29) (tapRows arg5 harg5 x3 640 30) (tapRows arg5 harg5 x3 640 31)
        (tapRows arg5 harg5 x3 640 32) (tapRows arg5 harg5 x3 640 33) (tapRows arg5 harg5 x3 640 34) (tapRows arg5 harg5 x3 640 35)
        (tapRows arg5 harg5 x3 640 36) (tapRows arg5 harg5 x3 640 37) (shapeCast S1x128 (shapeCast S1x128 (biasRaw arg6 harg6 x4 640) shapeCasts_S1x128_S1x128) shapeCasts_S1x128_S1x128) X_arg12
        (Scf.trips k0_t6_loop.lb k0_t6_loop.ub k0_t6_loop.st),
      ∀ x : p.1.shape.Idx, p.2 x = convAt x3 x4 (arg12.view.read (Elt Ideal) X_arg12) (p.1.emb x) := by
  apply lanes6
  iterate 38 exact tapRows_of _ _ _ _ _ _ _
  exact bias_cast _ _ _ (bias_cast _ _ _ (biasRaw_of _ _ _ _ _))

theorem loads7 :
    ∀ p ∈ pb_k0_t7 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 768 0) (tapRows arg5 harg5 x3 768 1) (tapRows arg5 harg5 x3 768 2) (tapRows arg5 harg5 x3 768 3)
        (tapRows arg5 harg5 x3 768 4) (tapRows arg5 harg5 x3 768 5) (tapRows arg5 harg5 x3 768 6) (tapRows arg5 harg5 x3 768 7)
        (tapRows arg5 harg5 x3 768 8) (tapRows arg5 harg5 x3 768 9) (tapRows arg5 harg5 x3 768 10) (tapRows arg5 harg5 x3 768 11)
        (tapRows arg5 harg5 x3 768 12) (tapRows arg5 harg5 x3 768 13) (tapRows arg5 harg5 x3 768 14) (tapRows arg5 harg5 x3 768 15)
        (tapRows arg5 harg5 x3 768 16) (tapRows arg5 harg5 x3 768 17) (tapRows arg5 harg5 x3 768 18) (tapRows arg5 harg5 x3 768 19)
        (tapRows arg5 harg5 x3 768 20) (tapRows arg5 harg5 x3 768 21) (tapRows arg5 harg5 x3 768 22) (tapRows arg5 harg5 x3 768 23)
        (tapRows arg5 harg5 x3 768 24) (tapRows arg5 harg5 x3 768 25) (tapRows arg5 harg5 x3 768 26) (tapRows arg5 harg5 x3 768 27)
        (tapRows arg5 harg5 x3 768 28) (tapRows arg5 harg5 x3 768 29) (tapRows arg5 harg5 x3 768 30) (tapRows arg5 harg5 x3 768 31)
        (tapRows arg5 harg5 x3 768 32) (tapRows arg5 harg5 x3 768 33) (tapRaw arg5 harg5 x3 768 34) (tapRaw arg5 harg5 x3 768 35)
        (tapRaw arg5 harg5 x3 768 36) (tapRaw arg5 harg5 x3 768 37) (biasRaw arg6 harg6 x4 768) X_arg12
        (Scf.trips k0_t7_loop.lb k0_t7_loop.ub k0_t7_loop.st),
      ∀ x : p.1.shape.Idx, p.2 x = convAt x3 x4 (arg12.view.read (Elt Ideal) X_arg12) (p.1.emb x) := by
  apply lanes7
  iterate 34 exact tapRows_of _ _ _ _ _ _ _
  iterate 4 exact tapRaw_of _ _ _ _ _ _ _
  exact biasRaw_of _ _ _ _ _

theorem loads8 :
    ∀ p ∈ pb_k0_t8 (F := Ideal) 𝒱 c bd i arg2 harg2 arg3 harg3 arg4 harg4 arg5 harg5 arg6 harg6 arg7 harg7 arg8 harg8 arg9 harg9 arg10 harg10 arg11 harg11 arg12 harg12 arg13 harg13
        (tapRows arg5 harg5 x3 896 0) (tapRows arg5 harg5 x3 896 1) (tapRows arg5 harg5 x3 896 2) (tapRows arg5 harg5 x3 896 3)
        (tapRows arg5 harg5 x3 896 4) (tapRows arg5 harg5 x3 896 5) (tapRows arg5 harg5 x3 896 6) (tapRows arg5 harg5 x3 896 7)
        (tapRows arg5 harg5 x3 896 8) (tapRows arg5 harg5 x3 896 9) (tapRows arg5 harg5 x3 896 10) (tapRows arg5 harg5 x3 896 11)
        (tapRows arg5 harg5 x3 896 12) (tapRows arg5 harg5 x3 896 13) (tapRows arg5 harg5 x3 896 14) (tapRows arg5 harg5 x3 896 15)
        (tapRows arg5 harg5 x3 896 16) (tapRows arg5 harg5 x3 896 17) (tapRows arg5 harg5 x3 896 18) (tapRows arg5 harg5 x3 896 19)
        (tapRows arg5 harg5 x3 896 20) (tapRows arg5 harg5 x3 896 21) (tapRows arg5 harg5 x3 896 22) (tapRows arg5 harg5 x3 896 23)
        (tapRows arg5 harg5 x3 896 24) (tapRows arg5 harg5 x3 896 25) (tapRows arg5 harg5 x3 896 26) (tapRows arg5 harg5 x3 896 27)
        (tapRows arg5 harg5 x3 896 28) (tapRows arg5 harg5 x3 896 29) (tapRaw arg5 harg5 x3 896 30) (tapRaw arg5 harg5 x3 896 31)
        (tapRaw arg5 harg5 x3 896 32) (tapRaw arg5 harg5 x3 896 33) (tapRaw arg5 harg5 x3 896 34) (tapRaw arg5 harg5 x3 896 35)
        (tapRaw arg5 harg5 x3 896 36) (tapRaw arg5 harg5 x3 896 37) (biasRaw arg6 harg6 x4 896) X_arg12
        (Scf.trips k0_t8_loop.lb k0_t8_loop.ub k0_t8_loop.st),
      ∀ x : p.1.shape.Idx, p.2 x = convAt x3 x4 (arg12.view.read (Elt Ideal) X_arg12) (p.1.emb x) := by
  apply lanes8
  iterate 30 exact tapRows_of _ _ _ _ _ _ _
  iterate 8 exact tapRaw_of _ _ _ _ _ _ _
  exact biasRaw_of _ _ _ _ _

end Cert.OddIdeal.Hand

end
-- ==== Proof.Odd.RunA.lean ====
/- The body's run at the first row tile of a sequence. -/
module

public import proofs.«01_k».proof.Proof.Odd.Halo

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the run's proof term is large
set_option maxHeartbeats 1900000 in
/-- The body at the first row tile of a sequence: the tile it writes (a function of what the convolution's scratch held
    on entry) and what it leaves in the halo buffer, as the run finds them. -/
noncomputable def run_first_exec (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S38x8x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S68x8x1024 .f32) (harg12 : arg12.IsWhole)
    (arg13 : Memref sig .tc .vmem S512x1024 .f32) (harg13 : arg13.IsWhole) (hc0 : cond0_0 i)
    (x0 : Vec Ideal S1x512x1024 .f32) (x1 : Vec Ideal S1x1024 .f32) (x2 : Vec Ideal S1024x3072 .bf16) (x3 : Vec Ideal S38x8x1024 .f32)
    (x4 x5 x6 : Vec Ideal S1x1024 .f32) (x7 : Vec Ideal S1024x1024 .bf16) (x8 : Vec Ideal S1x1024 .f32) :
    { V : (BufTy.Contents (Elt Ideal) arg13.view.ty → Vec Ideal S1x512x1024 .f32) × Vec Ideal S68x8x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ g : BufTy.Contents (Elt Ideal) arg13.view.ty, owns (c : Thread nD τ) arg11 fullShare (V.1 g)) ∗ owns (c : Thread nD τ) arg12 fullShare V.2 ∗ (∃ d, owns (c : Thread nD τ) arg13 fullShare d)) -∗ K ⟨⟩))
        ⊢ wp frame (wpE (defs₀ (F := Ideal)) Variants.none c none) E (cc0_odd_layer (F := Ideal) i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0_odd_layer_eq_skeleton]; unfold cc0_odd_layer_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists fs1, _; isplitr; swap; · iexact H9
      ipureintro
      exact View.read_writes_full _ _ _ _ _
    isplitl [HS0]
    · iexists _; isplitr; swap; · iexact HS0
      ipureintro
      rfl
    iexists _, _; isplitr; swap; · iexact HS1
    ipureintro; rfl

end Cert.OddIdeal.Hand

end
-- ==== Proof.Odd.LeftA.lean ====
/- What the body's run at the first row tile of a sequence leaves, by values. -/
module

public import proofs.«01_k».proof.Proof.Odd.Loads
public import proofs.«01_k».proof.Proof.Odd.RunA

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S38x8x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S68x8x1024 .f32) (harg12 : arg12.IsWhole)
    (arg13 : Memref sig .tc .vmem S512x1024 .f32) (harg13 : arg13.IsWhole) (hc0 : cond0_0 i)
    (x0 : Vec Ideal S1x512x1024 .f32) (x1 : Vec Ideal S1x1024 .f32) (x2 : Vec Ideal S1024x3072 .bf16) (x3 : Vec Ideal S38x8x1024 .f32)
    (x4 x5 x6 : Vec Ideal S1x1024 .f32) (x7 : Vec Ideal S1024x1024 .bf16) (x8 : Vec Ideal S1x1024 .f32)

set_option maxHeartbeats 1600000 in
/-- The tile written, by values. -/
theorem run_first_tile (fs1 : BufTy.Contents (Elt Ideal) arg13.view.ty) : (run_first_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1.1 fs1 = outTile x0 x1 x2 x3 x4 x5 x6 x7 x8 (halo (k0_pay404 (F := Ideal)) (yTile x0 x1 x2)) := by
  have h1 : arg12.view.read (Elt Ideal) (arg12.view.writes (Elt Ideal) arg12.view.junk (run_first_exec.sl.HS0_2 c arg2 harg2 arg3 harg3 arg4 harg4 x0 x1 x2)) = halo (k0_pay404 (F := Ideal)) (yTile x0 x1 x2) := by
    unfold run_first_exec.sl.HS0_2
    rw [yTile_load]
    exact (read_tile _ _ _ _ _).trans (congrArg (halo · (yTile x0 x1 x2)) (headRows_history _ _ _ _ _))
  have hV : run_first_exec.sl.v684 c i arg2 harg2 arg3 harg3 arg4 harg4 arg5 harg5 arg6 harg6 arg7 harg7 arg8 harg8 arg9 harg9 arg10 harg10 arg11 harg11 arg12 harg12 arg13 harg13 x0 x1 x2 x3 x4 fs1 = convAt x3 x4 (halo (k0_pay404 (F := Ideal)) (yTile x0 x1 x2)) := by
    rw [← h1]
    unfold run_first_exec.sl.v684
    rw [View.readAt_eq_ld, View.ld_unit_lit _ _ (by intro a; fin_cases a <;> rfl)]
    funext y
    refine View.read_writes_apply_of_pieces (Val := Elt Ideal) (e := .f32) _ _ (convAt x3 x4 _) _ ?_ y (View.cover_of_tiledL _ ![8, 128] (by sl_kernel_rfl) y)
    exact List.forall_mem_append.2 ⟨(loads8 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads7 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads6 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads5 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads4 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads3 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads2 _ c _ i arg2 harg2 arg3 harg3 arg4 harg4 arg5 harg5 arg6 harg6 arg7 harg7 arg8 harg8 arg9 harg9 arg10 harg10 arg11 harg11 arg12 harg12 arg13 harg13 _ x3 x4),
      (loads1 _ c _ i arg2 harg2 arg3 harg3 arg4 harg4 arg5 harg5 arg6 harg6 arg7 harg7 arg8 harg8 arg9 harg9 arg10 harg10 arg11 harg11 arg12 harg12 arg13 harg13 _ x3 x4)⟩⟩⟩⟩⟩⟩⟩
  exact outTile_load arg2 harg2 arg3 harg3 arg4 harg4 arg7 harg7 arg8 harg8 arg9 harg9 arg10 harg10 x0 x1 x2 x3 x4 x5 x6 x7 x8 _ _ _ _ _ _ hV

/-- The halo buffer left, by values. -/
theorem run_first_halo : (run_first_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1.2 = halo (lastRows (yTile x0 x1 x2)) (yTile x0 x1 x2) := by
  show arg12.view.read (Elt Ideal) _ = _
  unfold run_first_exec.sl.v680 run_first_exec.sl.HS0_2
  rw [yTile_load, pay735_eq]
  refine (read_history _ _ _ _ _ _ (yTile x0 x1 x2) (read_tile _ _ _ _ _)).trans ?_
  refine congrArg (halo · (yTile x0 x1 x2)) ?_
  exact readAt_last _ _ _ _ _ (read_tile _ _ _ _ _)

include hc0 in
/-- The body at the first row tile of a sequence, by values. -/
theorem run_first (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ g : BufTy.Contents (Elt Ideal) arg13.view.ty, owns (c : Thread nD τ) arg11 fullShare (outTile x0 x1 x2 x3 x4 x5 x6 x7 x8 (halo (k0_pay404 (F := Ideal)) (yTile x0 x1 x2)))) ∗ owns (c : Thread nD τ) arg12 fullShare (halo (lastRows (yTile x0 x1 x2)) (yTile x0 x1 x2)) ∗ (∃ d, owns (c : Thread nD τ) arg13 fullShare d)) -∗ K ⟨⟩))
        ⊢ wp frame (wpE (defs₀ (F := Ideal)) Variants.none c none) E (cc0_odd_layer (F := Ideal) i arg2 harg2 arg3 harg3 arg4 harg4 arg5 harg5 arg6 harg6 arg7 harg7 arg8 harg8 arg9 harg9 arg10 harg10 arg11 harg11 arg12 harg12 arg13 harg13) K := by
  have h := (run_first_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2 E K
  rw [run_first_halo] at h
  simp only [run_first_tile] at h
  exact h

end Cert.OddIdeal.Hand

end
-- ==== Proof.Odd.RunB.lean ====
/- The body's run at a later row tile. -/
module

public import proofs.«01_k».proof.Proof.Odd.Halo

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the run's proof term is large
set_option maxHeartbeats 1900000 in
/-- The body at a later row tile, on the halo buffer the tile before it left: the tile it writes (a function of what the convolution's scratch held
    on entry) and what it leaves in the halo buffer, as the run finds them. -/
noncomputable def run_next_exec (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S38x8x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S68x8x1024 .f32) (harg12 : arg12.IsWhole)
    (arg13 : Memref sig .tc .vmem S512x1024 .f32) (harg13 : arg13.IsWhole) (hc0 : ¬cond0_0 i)
    (x0 : Vec Ideal S1x512x1024 .f32) (x1 : Vec Ideal S1x1024 .f32) (x2 : Vec Ideal S1024x3072 .bf16) (x3 : Vec Ideal S38x8x1024 .f32)
    (x4 x5 x6 : Vec Ideal S1x1024 .f32) (x7 : Vec Ideal S1024x1024 .bf16) (x8 : Vec Ideal S1x1024 .f32) (xs0 : Vec Ideal S68x8x1024 .f32) :
    { V : (BufTy.Contents (Elt Ideal) arg13.view.ty → Vec Ideal S1x512x1024 .f32) × Vec Ideal S68x8x1024 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ g : BufTy.Contents (Elt Ideal) arg13.view.ty, owns (c : Thread nD τ) arg11 fullShare (V.1 g)) ∗ owns (c : Thread nD τ) arg12 fullShare V.2 ∗ (∃ d, owns (c : Thread nD τ) arg13 fullShare d)) -∗ K ⟨⟩))
        ⊢ wp frame (wpE (defs₀ (F := Ideal)) Variants.none c none) E (cc0_odd_layer (F := Ideal) i arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K => ?run⟩
  case run =>
    simp only [cc0_odd_layer_eq_skeleton]; unfold cc0_odd_layer_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists fs1, _; isplitr; swap; · iexact H9
      ipureintro
      exact View.read_writes_full _ _ _ _ _
    isplitl [HS0]
    · iexists _; isplitr; swap; · iexact HS0
      ipureintro
      rfl
    iexists _, _; isplitr; swap; · iexact HS1
    ipureintro; rfl

end Cert.OddIdeal.Hand

end
-- ==== Proof.Odd.LeftB.lean ====
/- What the body's run at a later row tile leaves, by values. -/
module

public import proofs.«01_k».proof.Proof.Odd.Loads
public import proofs.«01_k».proof.Proof.Odd.RunB

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S38x8x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S68x8x1024 .f32) (harg12 : arg12.IsWhole)
    (arg13 : Memref sig .tc .vmem S512x1024 .f32) (harg13 : arg13.IsWhole) (hc0 : ¬cond0_0 i)
    (x0 : Vec Ideal S1x512x1024 .f32) (x1 : Vec Ideal S1x1024 .f32) (x2 : Vec Ideal S1024x3072 .bf16) (x3 : Vec Ideal S38x8x1024 .f32)
    (x4 x5 x6 : Vec Ideal S1x1024 .f32) (x7 : Vec Ideal S1024x1024 .bf16) (x8 : Vec Ideal S1x1024 .f32) (xs0 : Vec Ideal S68x8x1024 .f32)

set_option maxHeartbeats 1600000 in
/-- The tile written, by values. -/
theorem run_next_tile (fs1 : BufTy.Contents (Elt Ideal) arg13.view.ty) : (run_next_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1.1 fs1 = outTile x0 x1 x2 x3 x4 x5 x6 x7 x8 (halo (headRows xs0) (yTile x0 x1 x2)) := by
  have h1 : arg12.view.read (Elt Ideal) (arg12.view.writes (Elt Ideal) (harg12.unread xs0) [⟨Rect.unit (s := S68x8x1024) ![4, 0, 0] S64x8x1024.size inb_S68x8x1024_S64x8x1024_4_0_0, yTile x0 x1 x2⟩]) = halo (headRows xs0) (yTile x0 x1 x2) :=
    (read_tile _ _ _ _ _).trans (congrArg (halo · (yTile x0 x1 x2)) (congrArg headRows (harg12.read_unread xs0)))
  have hV : run_next_exec.sl.v684 c i arg2 harg2 arg3 harg3 arg4 harg4 arg5 harg5 arg6 harg6 arg7 harg7 arg8 harg8 arg9 harg9 arg10 harg10 arg11 harg11 arg12 harg12 arg13 harg13 x0 x1 x2 x3 x4 xs0 fs1 = convAt x3 x4 (halo (headRows xs0) (yTile x0 x1 x2)) := by
    rw [← h1]
    unfold run_next_exec.sl.v684
    rw [yTile_load]
    rw [View.readAt_eq_ld, View.ld_unit_lit _ _ (by intro a; fin_cases a <;> rfl)]
    funext y
    refine View.read_writes_apply_of_pieces (Val := Elt Ideal) (e := .f32) _ _ (convAt x3 x4 _) _ ?_ y (View.cover_of_tiledL _ ![8, 128] (by sl_kernel_rfl) y)
    exact List.forall_mem_append.2 ⟨(loads8 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads7 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads6 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads5 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads4 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads3 _ c _ i arg2 harg2 arg3 harg3 arg4 harg4 arg5 harg5 arg6 harg6 arg7 harg7 arg8 harg8 arg9 harg9 arg10 harg10 arg11 harg11 arg12 harg12 arg13 harg13 _ x3 x4),
      List.forall_mem_append.2 ⟨(loads2 _ c _ i arg2 harg2 arg3 harg3 arg4 harg4 arg5 harg5 arg6 harg6 arg7 harg7 arg8 harg8 arg9 harg9 arg10 harg10 arg11 harg11 arg12 harg12 arg13 harg13 _ x3 x4),
      (loads1 _ c _ i arg2 harg2 arg3 harg3 arg4 harg4 arg5 harg5 arg6 harg6 arg7 harg7 arg8 harg8 arg9 harg9 arg10 harg10 arg11 harg11 arg12 harg12 arg13 harg13 _ x3 x4)⟩⟩⟩⟩⟩⟩⟩
  exact outTile_load arg2 harg2 arg3 harg3 arg4 harg4 arg7 harg7 arg8 harg8 arg9 harg9 arg10 harg10 x0 x1 x2 x3 x4 x5 x6 x7 x8 _ _ _ _ _ _ hV

/-- The halo buffer left, by values. -/
theorem run_next_halo : (run_next_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1.2 = halo (lastRows (yTile x0 x1 x2)) (yTile x0 x1 x2) := by
  show arg12.view.read (Elt Ideal) _ = _
  unfold run_next_exec.sl.v680
  rw [yTile_load, pay735_eq]
  refine (read_history _ _ _ _ _ _ (yTile x0 x1 x2) (read_tile _ _ _ _ _)).trans ?_
  refine congrArg (halo · (yTile x0 x1 x2)) ?_
  exact readAt_last _ _ _ _ _ (read_tile _ _ _ _ _)

include hc0 in
/-- The body at a later row tile, on the halo buffer the tile before it left, by values. -/
theorem run_next (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ g : BufTy.Contents (Elt Ideal) arg13.view.ty, owns (c : Thread nD τ) arg11 fullShare (outTile x0 x1 x2 x3 x4 x5 x6 x7 x8 (halo (headRows xs0) (yTile x0 x1 x2)))) ∗ owns (c : Thread nD τ) arg12 fullShare (halo (lastRows (yTile x0 x1 x2)) (yTile x0 x1 x2)) ∗ (∃ d, owns (c : Thread nD τ) arg13 fullShare d)) -∗ K ⟨⟩))
        ⊢ wp frame (wpE (defs₀ (F := Ideal)) Variants.none c none) E (cc0_odd_layer (F := Ideal) i arg2 harg2 arg3 harg3 arg4 harg4 arg5 harg5 arg6 harg6 arg7 harg7 arg8 harg8 arg9 harg9 arg10 harg10 arg11 harg11 arg12 harg12 arg13 harg13) K := by
  have h := (run_next_exec c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2 E K
  rw [run_next_halo] at h
  simp only [run_next_tile] at h
  exact h

end Cert.OddIdeal.Hand

end
-- ==== Proof.Odd.Frame.lean ====
/- The run of the whole kernel: what the invocation leaves in its output at each grid point and in the halo
   buffer it carries, the proof data of its pipeline, the body at every point, and the launch. -/
module

public import proofs.«01_k».proof.Proof.Odd.LeftA
public import proofs.«01_k».proof.Proof.Odd.LeftB
public import Idealize.ShloMosaic.Lib.Claim

@[expose] public section

set_option maxRecDepth 16384

noncomputable section

namespace Cert.OddIdeal.Hand

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The gated rows of grid point `t`. -/
def tileAt (c : Dev nD) (t : Fin cfg0.N) : Vec Ideal S64x8x1024 .f32 := yTile (iblk m c 0 t) (iblk m c 1 t) (iblk m c 2 t)

/-- The history before grid point `t`: zeros at the first row tile of a sequence, else the last rows of the tile before. -/
def pastAt (c : Dev nD) (t : Fin cfg0.N) : Vec Ideal S4x8x1024 .f32 :=
  if t.val % 4 = 0 then k0_pay404 (F := Ideal)
  else lastRows (tileAt m c ⟨t.val - 1, lt_of_le_of_lt (Nat.sub_le _ _) t.isLt⟩)

/-- What the invocation leaves in its output block at grid point `t`. -/
def outAt (c : Dev nD) (t : Fin cfg0.N) : Vec Ideal S1x512x1024 .f32 :=
  outTile (iblk m c 0 t) (iblk m c 1 t) (iblk m c 2 t) (iblk m c 3 t) (iblk m c 4 t) (iblk m c 5 t) (iblk m c 6 t) (iblk m c 7 t) (iblk m c 8 t)
    (halo (pastAt m c t) (tileAt m c t))

/-- What it leaves in the halo buffer. -/
def haloAt (c : Dev nD) (t : Fin cfg0.N) : Vec Ideal S68x8x1024 .f32 := halo (lastRows (tileAt m c t)) (tileAt m c t)

theorem pastAt_first (c : Dev nD) (t : Fin cfg0.N) (h0 : t.val % 4 = 0) : pastAt m c t = k0_pay404 (F := Ideal) := if_pos h0

theorem pastAt_next (c : Dev nD) (t : Fin cfg0.N) (h0 : ¬t.val % 4 = 0) :
    pastAt m c t = headRows (haloAt m c ⟨t.val - 1, lt_of_le_of_lt (Nat.sub_le _ _) t.isLt⟩) :=
  (if_neg h0).trans (headRows_halo _ _).symm

/-- The invariant: the halo buffer at what the point before left in it, the rest at some state. -/
def PhiS (c : Dev nD) : (n : ℕ) → n ≤ cfg0.N → sProp 𝕄
  | 0, _ => Pipeline.ΦA spec0 c
  | n + 1, hn => iprop(iprop(owns (c : Thread nD τ) scM0_0 fullShare (haloAt m c ⟨n, hn⟩) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (haloAt m c ⟨n, hn⟩) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (haloAt m c ⟨n - 1, lt_of_lt_of_le (Nat.sub_lt (Nat.pos_of_ne_zero hz) Nat.one_pos) h⟩) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the first row tile of a sequence runs from any halo buffer, any later one from what the point before left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases hz : t.val = 0
    · rw [PhiS_castSucc m c t, PhiS_zero m c _ _ hz, PhiA0_eq]
      rw [show outAt m c t = outTile (iblk m c 0 t) (iblk m c 1 t) (iblk m c 2 t) (iblk m c 3 t) (iblk m c 4 t) (iblk m c 5 t) (iblk m c 6 t) (iblk m c 7 t) (iblk m c 8 t) (halo (pastAt m c t) (tileAt m c t)) from rfl, pastAt_first m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      rw [show outAt m c t = outTile (iblk m c 0 t) (iblk m c 1 t) (iblk m c 2 t) (iblk m c 3 t) (iblk m c 4 t) (iblk m c 5 t) (iblk m c 6 t) (iblk m c 7 t) (iblk m c 8 t) (halo (pastAt m c t) (tileAt m c t)) from rfl, pastAt_first m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hz : t.val ≠ 0 := fun hz => h0 (by rw [hz])
    · rw [PhiS_castSucc m c t, PhiS_pos m c _ _ hz]
      rw [show outAt m c t = outTile (iblk m c 0 t) (iblk m c 1 t) (iblk m c 2 t) (iblk m c 3 t) (iblk m c 4 t) (iblk m c 5 t) (iblk m c 6 t) (iblk m c 7 t) (iblk m c 8 t) (halo (pastAt m c t) (tileAt m c t)) from rfl, pastAt_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_next c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame of the kernel: its arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.OddIdeal.Hand

end
-- ==== Proof.Odd.Host.lean ====
/- What the host passes to the kernel, read element by element off the arguments. -/
module

public import proofs.«01_k».proof.Proof.Odd.Frame
public import Idealize.ShloMosaic.Lib.Pointwise

@[expose] public section

set_option maxRecDepth 16384

noncomputable section

namespace Cert.OddIdeal.Hand

open Cert.OddIdeal Cert.OddIdeal.Gen
open Idealize.ShloMosaic Idealize.ShloMosaic.TcCoe Idealize.ShloMosaic.Tactic

variable (m : (ℓ : Loc nD τ sig) → Buf (Elt Ideal) ℓ) (c : Dev nD)

/-- The table of which taps exist. -/
theorem lit1_at : ∀ (j : Fin 38) (s : Fin 8), lit1 (S38x8.rowMajor (ix2 j s)) = if s.val ≤ j.val ∧ j.val < s.val + 31 then 1#1 else 0#1 := by
  decide +kernel

/-- The table of tap numbers. -/
theorem lit0_at : ∀ (j : Fin 38) (s : Fin 8), s.val ≤ j.val → j.val < s.val + 31 → min (lit0 (S38x8.rowMajor (ix2 j s))).toInt.toNat 30 = j.val - s.val := by
  decide +kernel

/-- The gather reads one row of the taps. -/
theorem gather_row (x : S31x1024.Idx → EReal) (idx : IVec S38x8x1 32) (j : Fin 38) (s : Fin 8) (k : Fin 1024) :
    Host.gather gather_S31x1024_S38x8x1_S38x8x1024_2_0_n_n_0_2_11024 x idx (ix3 j s k)
      = x (ix2 ⟨min (idx (ix3 j s 0)).toInt.toNat 30, by omega⟩ k) := by
  unfold Host.gather
  congr 1
  funext a
  refine Fin.ext ?_
  show GatherDims.start _ (ix3 j s k) idx a + GatherDims.batchCoord _ (ix3 j s k) a + GatherDims.offCoord _ (ix3 j s k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S31x1024_S38x8x1_S38x8x1024_2_0_n_n_0_2_11024.startIndexMap from List.mem_singleton.mpr rfl)]
    refine congrArg (fun i => min (idx i).toInt.toNat 30) ?_
    funext b; refine Fin.ext ?_
    match b with
    | ⟨0, _⟩ => rfl
    | ⟨1, _⟩ => rfl
    | ⟨2, _⟩ => rfl
  · rw [GatherDims.batchCoord_eq_zero _ _ _ List.not_mem_nil]
    unfold GatherDims.start
    rw [dif_neg (show ¬ (1 : Fin 2) ∈ gather_S31x1024_S38x8x1_S38x8x1024_2_0_n_n_0_2_11024.startIndexMap by decide)]
    simp only [Nat.zero_add, Nat.add_zero]
    unfold GatherDims.offCoord
    rw [dif_pos (show (1 : Fin 2) ∈ gather_S31x1024_S38x8x1_S38x8x1024_2_0_n_n_0_2_11024.sKept by decide)]
    rfl

set_option maxHeartbeats 800000 in
/-- The shifted taps: row `j` for the lane `s` is tap `j - s`, and zero where there is no such tap. -/
theorem V_taps (j : Fin 38) (s : Fin 8) (k : Fin 1024) : V m c main_v6 (ix3 j s k) = if h : s.val ≤ j.val ∧ j.val < s.val + 31 then m ((c : Thread nD τ).loc main_arg3) (ix2 ⟨j.val - s.val, by omega⟩ k) else (0 : EReal) := by
  unfold V
  simp only [hostOps0, hostOps0_1, hostOps0_2, List.flatten_cons, List.flatten_nil, List.append_nil, List.cons_append, List.nil_append]
  after_results
  have key : ∀ (b : BitVec 1) (x y : EReal), b = (if s.val ≤ j.val ∧ j.val < s.val + 31 then 1#1 else 0#1) → Scalar.select b x y = if s.val ≤ j.val ∧ j.val < s.val + 31 then x else y := by
    intro b x y h
    rw [h]
    split <;> rfl
  refine (key (lit1 (S38x8.rowMajor (ix2 j s))) (Host.gather gather_S31x1024_S38x8x1_S38x8x1024_2_0_n_n_0_2_11024 (m (c, Proc.tc.devRef main_arg3))
            (broadcastInDim S38x8x1 ![0, 1] bcast_S38x8_S38x8x1_0_1
              (select (constantI S38x8 1 0#1)
                (addi (fun i => lit0 (S38x8.rowMajor i))
                  (broadcastInDim S38x8 ![] bcast_S_S38x8 (constantI S_ 32 31#32)))
                fun i => lit0 (S38x8.rowMajor i))) (ix3 j s k)) (Ideal.ofBits FTy.f32 0#32) (lit1_at j s)).trans ?_
  rw [gather_row]
  split
  · next h =>
    refine congrArg (m (c, Proc.tc.devRef main_arg3)) (congrArg (fun r => ix2 r k) (Fin.ext ?_))
    exact lit0_at j s h.1 h.2
  · exact Ideal.ofBits_zero .f32

/-- Argument 1 as the body's row. -/
theorem V_row1 (k : Fin 1024) : V m c main_v7 (ix2 0 k) = m ((c : Thread nD τ).loc main_arg1) (ix1 k) := by
  unfold V
  simp only [hostOps0, hostOps0_1, hostOps0_2, List.flatten_cons, List.flatten_nil, List.append_nil, List.cons_append, List.nil_append]
  after_results
  pointwise []

/-- Argument 4 as the body's row. -/
theorem V_row4 (k : Fin 1024) : V m c main_v9 (ix2 0 k) = m ((c : Thread nD τ).loc main_arg4) (ix1 k) := by
  unfold V
  simp only [hostOps0, hostOps0_1, hostOps0_2, List.flatten_cons, List.flatten_nil, List.append_nil, List.cons_append, List.nil_append]
  after_results
  pointwise []

/-- Argument 5 as the body's row. -/
theorem V_row5 (k : Fin 1024) : V m c main_v10 (ix2 0 k) = m ((c : Thread nD τ).loc main_arg5) (ix1 k) := by
  unfold V
  simp only [hostOps0, hostOps0_1, hostOps0_2, List.flatten_cons, List.flatten_nil, List.append_nil, List.cons_append, List.nil_append]
  after_results
  pointwise []

/-- Argument 6 as the body's row. -/
theorem V_row6 (k : Fin 1024) : V m c main_v11 (ix2 0 k) = m ((c : Thread nD τ).loc main_arg6) (ix1 k) := by
  unfold V
  simp only [hostOps0, hostOps0_1, hostOps0_2, List.flatten_cons, List.flatten_nil, List.append_nil, List.cons_append, List.nil_append]
  after_results
  pointwise []

/-- Argument 8 as the body's row. -/
theorem V_row8 (k : Fin 1024) : V m c main_v13 (ix2 0 k) = m ((c : Thread nD τ).loc main_arg8) (ix1 k) := by
  unfold V
  simp only [hostOps0, hostOps0_1, hostOps0_2, List.flatten_cons, List.flatten_nil, List.append_nil, List.cons_append, List.nil_append]
  after_results
  pointwise []

/-- Argument 2 in the narrow format: the same matrix. -/
theorem V_mat2 (j k) : V m c main_v8 (ix2 j k) = m ((c : Thread nD τ).loc main_arg2) (ix2 j k) := by
  unfold V
  simp only [hostOps0, hostOps0_1, hostOps0_2, List.flatten_cons, List.flatten_nil, List.append_nil, List.cons_append, List.nil_append]
  after_results
  rfl

/-- Argument 7 in the narrow format: the same matrix. -/
theorem V_mat7 (j k) : V m c main_v12 (ix2 j k) = m ((c : Thread nD τ).loc main_arg7) (ix2 j k) := by
  unfold V
  simp only [hostOps0, hostOps0_1, hostOps0_2, List.flatten_cons, List.flatten_nil, List.append_nil, List.cons_append, List.nil_append]
  after_results
  rfl

end Cert.OddIdeal.Hand

end
-- ==== Proof.Odd.Reads.lean ====
/- The kernel's blocks at a grid point, read off the arguments. -/
module

public import proofs.«01_k».proof.Proof.Odd.Frame
public import proofs.«01_k».proof.Proof.Odd.Host
public import Idealize.ShloMosaic.Lib.Pointwise

@[expose] public section

set_option maxRecDepth 16384

noncomputable section

namespace Cert.OddIdeal.Hand

open Cert.OddIdeal Cert.OddIdeal.Gen
open Idealize.ShloMosaic Idealize.ShloMosaic.TcCoe Idealize.ShloMosaic.Tactic

variable (m : (ℓ : Loc nD τ sig) → Buf (Elt Ideal) ℓ) (c : Dev nD)

/-- The windows' index maps: sequence `t / 4`, row tile `t % 4`; every other operand is one block. -/
theorem idx : ∀ t : Fin cfg0.N, win0_0.index t = ![t.val / 4, t.val % 4, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![t.val / 4, t.val % 4, 0] :=
  (by decide +kernel : ∀ t : Fin grid0.N, _)

/-- The sequence of a grid point. -/
def seqOf (t : Fin cfg0.N) : Fin 16 := ⟨t.val / 4, by have : t.val < 64 := Nat.lt_of_lt_of_eq t.isLt N_0; omega⟩

/-- Row `r` of a grid point's tile, in its sequence. -/
def rowOf (t : Fin cfg0.N) (r : ℕ) (hr : r < 512) : Fin 2048 := ⟨512 * (t.val % 4) + r, by omega⟩

theorem blk0 (t : Fin cfg0.N) (r : Fin 512) (k : Fin 1024) :
    iblk m c 0 t (ix3 0 r k) = m ((c : Thread nD τ).loc main_arg0) (ix3 (seqOf t) (rowOf t r.val r.isLt) k) := by
  unfold seqOf rowOf
  blk_ext [iblk, V, idx t]

theorem blk1 (t : Fin cfg0.N) (k : Fin 1024) : iblk m c 1 t (ix2 0 k) = m ((c : Thread nD τ).loc main_arg1) (ix1 k) := by
  refine Eq.trans (b := V m c main_v7 (ix2 0 k)) ?_ (V_row1 m c k)
  blk_ext [iblk, idx t]

theorem blk4 (t : Fin cfg0.N) (k : Fin 1024) : iblk m c 4 t (ix2 0 k) = m ((c : Thread nD τ).loc main_arg4) (ix1 k) := by
  refine Eq.trans (b := V m c main_v9 (ix2 0 k)) ?_ (V_row4 m c k)
  blk_ext [iblk, idx t]

theorem blk5 (t : Fin cfg0.N) (k : Fin 1024) : iblk m c 5 t (ix2 0 k) = m ((c : Thread nD τ).loc main_arg5) (ix1 k) := by
  refine Eq.trans (b := V m c main_v10 (ix2 0 k)) ?_ (V_row5 m c k)
  blk_ext [iblk, idx t]

theorem blk6 (t : Fin cfg0.N) (k : Fin 1024) : iblk m c 6 t (ix2 0 k) = m ((c : Thread nD τ).loc main_arg6) (ix1 k) := by
  refine Eq.trans (b := V m c main_v11 (ix2 0 k)) ?_ (V_row6 m c k)
  blk_ext [iblk, idx t]

theorem blk8 (t : Fin cfg0.N) (k : Fin 1024) : iblk m c 8 t (ix2 0 k) = m ((c : Thread nD τ).loc main_arg8) (ix1 k) := by
  refine Eq.trans (b := V m c main_v13 (ix2 0 k)) ?_ (V_row8 m c k)
  blk_ext [iblk, idx t]

theorem blk2 (t : Fin cfg0.N) (j k) : iblk m c 2 t (ix2 j k) = m ((c : Thread nD τ).loc main_arg2) (ix2 j k) := by
  refine Eq.trans (b := V m c main_v8 (ix2 j k)) ?_ (V_mat2 m c j k)
  blk_ext [iblk, idx t]

theorem blk7 (t : Fin cfg0.N) (j k) : iblk m c 7 t (ix2 j k) = m ((c : Thread nD τ).loc main_arg7) (ix2 j k) := by
  refine Eq.trans (b := V m c main_v12 (ix2 j k)) ?_ (V_mat7 m c j k)
  blk_ext [iblk, idx t]

theorem blk3 (t : Fin cfg0.N) (j : Fin 38) (s : Fin 8) (k : Fin 1024) : iblk m c 3 t (ix3 j s k)
    = if h : s.val ≤ j.val ∧ j.val < s.val + 31 then m ((c : Thread nD τ).loc main_arg3) (ix2 ⟨j.val - s.val, by omega⟩ k) else (0 : EReal) := by
  refine Eq.trans (b := V m c main_v6 (ix3 j s k)) ?_ (V_taps m c j s k)
  blk_ext [iblk, idx t]

end Cert.OddIdeal.Hand

end
-- ==== Proof.Odd.Ref.lean ====
/- The reference, read element by element: its convolution as one sum over the taps, and its padded rows. -/
module

public import proofs.«01_k».proof.Proof.Gen.OddRefIdeal.Read
public import Idealize.ShloMosaic.Lib.Pointwise

@[expose] public section

set_option maxRecDepth 16384

noncomputable section

namespace Cert.OddRefIdeal.Hand

open Cert.OddRefIdeal Cert.OddRefIdeal.Read
open Idealize.ShloMosaic Idealize.ShloMosaic.TcCoe Idealize.ShloMosaic.Tactic

/-- The reference's convolution: the taps' sum over the padded rows, plus the bias. -/
theorem conv_eq (x0 x1 x2 x3 x4) (b : Fin 16) (s : Fin 2048) (k : Fin 1024) :
    val_main_v245 (F := Ideal) x0 x1 x2 x3 x4 (ix3 b s k)
      = (∑ j ∈ Finset.range 31, val_main_v24 (F := Ideal) x0 x1 x2 (ix3 b (Fin.ofNat 2078 (j + s.val)) k) * x3 (ix2 (Fin.ofNat 31 j) k) : EReal) + x4 (ix1 k) := by
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_4]
  have hx : ∀ n (h : n < 2078), (⟨n, h⟩ : Fin 2078) = Fin.ofNat 2078 n := fun n h => Fin.ext (Nat.mod_eq_of_lt h).symm
  simp only [hx, Finset.sum_range_succ, Finset.sum_range_zero, zero_add, Nat.zero_add]
  rfl

/-- The padded rows: thirty rows of zeros, then the gated rows. -/
theorem pad_eq (x0 x1 x2) (b : Fin 16) (n : Fin 2078) (k : Fin 1024) :
    val_main_v24 (F := Ideal) x0 x1 x2 (ix3 b n k)
      = if h : 30 ≤ n.val then val_main_v23 (F := Ideal) x0 x1 x2 (ix3 b ⟨n.val - 30, by omega⟩ k) else (0 : EReal) := by
  pointwise [val_main_v24, val_main_call0_v0, val_main_c]
  by_cases h : 30 ≤ n.val
  · rw [dif_pos h, dif_pos ⟨h, by omega⟩]
  · rw [dif_neg h, dif_neg (fun h' => h h'.1)]
    show ((((0#32 : BitVec 32).toInt : ℤ) : ℝ) : EReal) = 0
    simp

end Cert.OddRefIdeal.Hand

end
-- ==== Proof.Odd.Value.lean ====
/- The kernel's tile is the reference's rows. -/
module

public import proofs.«01_k».proof.Proof.Odd.Reads
public import proofs.«01_k».proof.Proof.Odd.Ref

@[expose] public section

set_option maxRecDepth 16384

noncomputable section

namespace Cert.OddIdeal.Hand

open Cert.OddIdeal Cert.OddIdeal.Gen
open Cert.OddRefIdeal.Read
open Idealize.ShloMosaic Idealize.ShloMosaic.TcCoe Idealize.ShloMosaic.Tactic

/-- Thirty-one taps shifted by `e` among thirty-eight rows, zeros elsewhere: the taps over the rows from `e` on. -/
theorem taps_sum (d H : ℕ → EReal) (e : ℕ) (he : e < 8) :
    (∑ j ∈ Finset.range 38, (if e ≤ j ∧ j < e + 31 then d (j - e) else 0) * H j) = ∑ i ∈ Finset.range 31, H (i + e) * d i := by
  rw [show 38 = e + (31 + (7 - e)) by omega, Finset.sum_range_add, Finset.sum_range_add]
  rw [Finset.sum_eq_zero (s := Finset.range e), Finset.sum_eq_zero (s := Finset.range (7 - e)), zero_add, add_zero]
  · refine Finset.sum_congr rfl fun i hi => ?_
    have hi := Finset.mem_range.mp hi
    rw [if_pos ⟨by omega, by omega⟩, show e + i - e = i by omega, Nat.add_comm e i, mul_comm]
  · intro i hi
    rw [if_neg (by omega), zero_mul]
  · intro i hi
    have hi := Finset.mem_range.mp hi
    rw [if_neg (by omega), zero_mul]

variable (m : (ℓ : Loc nD τ sig) → Buf (Elt Ideal) ℓ) (c : Dev nD)

/-- The normalised rows. -/
theorem norm_at (t : Fin cfg0.N) (r : Fin 512) (k : Fin 1024) :
    k0_pay403 (F := Ideal) (iblk m c 0 t) (iblk m c 1 t) (ix2 r k)
      = val_main_v12 (F := Ideal) (m ((c : Thread nD τ).loc main_arg0)) (m ((c : Thread nD τ).loc main_arg1)) (ix3 (seqOf t) (rowOf t r.val r.isLt) k) := by
  pointwise [k0_pay403, k0_pay402, val_main_v0, val_main_v1, val_main_v2, val_main_v3, val_main_v4, val_main_v5, val_main_v6, val_main_v7, val_main_v8, val_main_v9, val_main_v10, val_main_v11, val_main_v12, val_main_cst, val_main_cst_0, val_main_cst_1]
  simp only [blk0, blk1]

/-- The gated rows. -/
theorem gate_at (t : Fin cfg0.N) (q : Fin 64) (e : Fin 8) (k : Fin 1024) :
    tileAt m c t (ix3 q e k)
      = val_main_v23 (F := Ideal) (m ((c : Thread nD τ).loc main_arg0)) (m ((c : Thread nD τ).loc main_arg1)) (m ((c : Thread nD τ).loc main_arg2)) (ix3 (seqOf t) (rowOf t (q.val * 8 + e.val) (by omega)) k) := by
  unfold tileAt yTile
  pointwise [k0_pay405, val_main_v13, val_main_v14, val_main_v15, val_main_v16, val_main_v17, val_main_v18, val_main_v19, val_main_v20, val_main_v21, val_main_v22, val_main_v23, val_main_cst_2, val_main_cst_3]
  simp only [norm_at, blk2, Ideal.logistic]

/-- A row of the halo buffer: a padded row of the reference. -/
theorem halo_at (t : Fin cfg0.N) (n : ℕ) (h2 : 2 ≤ n) (hn : n < 544) (k : Fin 1024) :
    haloRow (halo (pastAt m c t) (tileAt m c t)) n k.val
      = val_main_v24 (F := Ideal) (m ((c : Thread nD τ).loc main_arg0)) (m ((c : Thread nD τ).loc main_arg1)) (m ((c : Thread nD τ).loc main_arg2))
          (ix3 (seqOf t) (Fin.ofNat 2078 (512 * (t.val % 4) + (n - 2))) k) := by
  have ht : t.val < 64 := Nat.lt_of_lt_of_eq t.isLt N_0
  have hm : (512 * (t.val % 4) + (n - 2)) % 2078 = 512 * (t.val % 4) + (n - 2) := Nat.mod_eq_of_lt (by omega)
  have hk : Fin.ofNat 1024 k.val = k := Fin.ext (Nat.mod_eq_of_lt k.isLt)
  have h68 : (n / 8) % 68 = n / 8 := Nat.mod_eq_of_lt (by omega)
  have h8 : (n % 8) % 8 = n % 8 := Nat.mod_eq_of_lt (by omega)
  rw [Cert.OddRefIdeal.Hand.pad_eq]
  unfold haloRow
  rw [hk]
  by_cases hlt : n < 32
  · refine (halo_lt _ _ _ (show (n / 8) % 68 < 4 by omega)).trans ?_
    by_cases h0 : t.val % 4 = 0
    · rw [pastAt_first m c t h0, dif_neg (by show ¬ 30 ≤ (512 * (t.val % 4) + (n - 2)) % 2078; omega)]
      pointwise [k0_pay404]
    · rw [dif_pos (by show 30 ≤ (512 * (t.val % 4) + (n - 2)) % 2078; omega), pastAt, if_neg h0]
      unfold lastRows
      refine (gate_at m c _ ⟨(n / 8) % 68 + 60, by omega⟩ ⟨(n % 8) % 8, by omega⟩ k).trans ?_
      refine congrArg₂ (fun a b => val_main_v23 (F := Ideal) _ _ _ (ix3 a b k)) (Fin.ext ?_) (Fin.ext ?_)
      · show (t.val - 1) / 4 = t.val / 4
        omega
      · show 512 * ((t.val - 1) % 4) + (((n / 8) % 68 + 60) * 8 + (n % 8) % 8) = (512 * (t.val % 4) + (n - 2)) % 2078 - 30
        omega
  · rw [dif_pos (by show 30 ≤ (512 * (t.val % 4) + (n - 2)) % 2078; omega)]
    refine (halo_ge _ _ _ ⟨n / 8 - 4, by omega⟩ (show n / 8 - 4 + 4 = (n / 8) % 68 by omega)).trans ?_
    refine (gate_at m c t ⟨n / 8 - 4, by omega⟩ ⟨(n % 8) % 8, by omega⟩ k).trans ?_
    refine congrArg (fun b => val_main_v23 (F := Ideal) _ _ _ (ix3 (seqOf t) b k)) (Fin.ext ?_)
    show 512 * (t.val % 4) + ((n / 8 - 4) * 8 + (n % 8) % 8) = (512 * (t.val % 4) + (n - 2)) % 2078 - 30
    omega

/-- The convolution. -/
theorem conv_at (t : Fin cfg0.N) (r : Fin 512) (k : Fin 1024) :
    convAt (iblk m c 3 t) (iblk m c 4 t) (halo (pastAt m c t) (tileAt m c t)) (ix2 r k)
      = val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (seqOf t) (rowOf t r.val r.isLt) k) := by
  have hr := r.isLt
  refine Eq.trans ?_ (Cert.OddRefIdeal.Hand.conv_eq _ _ _ _ _ _ _ _).symm
  unfold convAt
  rw [runSum_eq, add_comm]
  refine congrArg₂ (fun a b : EReal => a + b) ?_ (blk4 m c t k)
  refine Eq.trans (Finset.sum_congr rfl fun j hj => ?_)
    ((taps_sum (fun i => (m ((c : Thread nD τ).loc main_arg3)) (ix2 (Fin.ofNat 31 i) k))
      (fun j => haloRow (halo (pastAt m c t) (tileAt m c t)) (8 * (r.val / 8) + (2 + j)) k.val) (r.val % 8) (by omega)).trans
      (Finset.sum_congr rfl fun i hi => ?_))
  · have hj := Finset.mem_range.mp hj
    refine congrArg (fun a : EReal => a * _) ?_
    refine (blk3 m c t _ _ k).trans ?_
    have e1 : j % 38 = j := Nat.mod_eq_of_lt hj
    have e2 : (r.val % 8) = r.val % 8 := rfl
    by_cases h : r.val % 8 ≤ j ∧ j < r.val % 8 + 31
    · rw [if_pos h, dif_pos (by show r.val % 8 ≤ j % 38 ∧ j % 38 < r.val % 8 + 31; omega)]
      refine congrArg (fun i => (m ((c : Thread nD τ).loc main_arg3)) (ix2 i k)) (Fin.ext ?_)
      show j % 38 - r.val % 8 = (j - r.val % 8) % 31
      omega
    · rw [if_neg h, dif_neg (by show ¬ (r.val % 8 ≤ j % 38 ∧ j % 38 < r.val % 8 + 31); omega)]
  · have hi := Finset.mem_range.mp hi
    refine congrArg (fun a : EReal => a * _) ?_
    refine (halo_at m c t _ (by omega) (by omega) k).trans ?_
    refine congrArg (fun n => val_main_v24 (F := Ideal) _ _ _ (ix3 (seqOf t) (Fin.ofNat 2078 n) k)) ?_
    show 512 * (t.val % 4) + (8 * (r.val / 8) + (2 + (i + r.val % 8)) - 2) = i + (512 * (t.val % 4) + r.val)
    omega

/-- The tile a grid point writes: the reference's rows. -/
theorem out_at (t : Fin cfg0.N) (r : Fin 512) (k : Fin 1024) :
    outAt m c t (ix3 0 r k)
      = val_main_v285 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (ix3 (seqOf t) (rowOf t r.val r.isLt) k) := by
  have hC := fun x : Fin 1024 => conv_at m c t r x
  unfold outAt outTile
  generalize convAt (iblk m c 3 t) (iblk m c 4 t) (halo (pastAt m c t) (tileAt m c t)) = C at hC ⊢
  pointwise [k0_pay1, k0_pay402, k0_pay736, k0_pay737, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v16, val_main_v13, val_main_call1_cst, val_main_call1_cst_0, val_main_call1_v0, val_main_call1_v1, val_main_call1_v2, val_main_call1_v3, val_main_call1_v4, val_main_call1_v5, val_main_call2_cst, val_main_call2_cst_0, val_main_call2_v0, val_main_call2_v1, val_main_call2_v2, val_main_call2_v3, val_main_call2_v4, val_main_call2_v5, val_main_cst_5, val_main_cst_6, val_main_cst_7, val_main_cst_8, val_main_cst_9, val_main_cst_10, val_main_cst_11, val_main_cst_12]
  simp only [hC, norm_at, blk0, blk2, blk5, blk6, blk7, blk8, Ideal.logistic]

/-- The result after the run is the reference's. -/
theorem final : (dats m 0 c).arrAt 9 (cfgs 0).N
    = val_main_v285 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) := by
  refine (dats m 0 c).arrAt_eq_of_covers 9 _ (by decide +kernel) fun t _ y => ?_
  blk_simp
  rw [after0_9]
  have hy : y = ix3 0 (y 1) (y 2) := by
    funext a
    fin_cases a
    · exact Fin.ext (Nat.lt_one_iff.mp (show (y 0).val < 1 from (y 0).isLt))
    · rfl
    · rfl
  rw [hy]
  refine (out_at m c t (y 1) (y 2)).trans ?_
  unfold seqOf rowOf
  blk_ext [idx t]

end Cert.OddIdeal.Hand

end
-- ==== Proof.Odd.Claims.lean ====
/- The claims about the convolution layer's reference, and the equality of the two results. -/
module

public import proofs.«01_k».proof.Defs
public import proofs.«01_k».proof.Proof.Odd.Value
public import proofs.«01_k».proof.Proof.Gen.OddRefIdeal
public import proofs.«01_k».proof.Proof.Gen.OddRefIdeal.Run
public import Idealize.ShloMosaic.Lib.Claim

@[expose] public section

set_option maxRecDepth 16384

noncomputable section

namespace Cert.Odd.Hand

open Idealize.ShloMosaic Idealize.ShloMosaic.TcCoe Idealize.SL.Sem

/-- The reference of the convolution layer runs, and leaves its arguments. -/
theorem frame_ref : Cert.quiescent_OddRefIdeal := fun m ρ _ =>
  (θ_run Cert.OddRefIdeal.defs _ _).mono (fun r h => ⟨fun c => (h c).2, sem_eq_zero_of_no_sems (by decide) r.2⟩)
    (Cert.OddRefIdeal.Value.run (F := Ideal) m ρ)

/-- The reference's result at equal arguments. -/
theorem ref_congr {x0 y0 x1 y1 x2 y2 x3 y3 x4 y4 x5 y5 x6 y6 x7 y7 x8 y8} (h0 : x0 = y0) (h1 : x1 = y1) (h2 : x2 = y2) (h3 : x3 = y3)
    (h4 : x4 = y4) (h5 : x5 = y5) (h6 : x6 = y6) (h7 : x7 = y7) (h8 : x8 = y8) :
    Cert.OddRefIdeal.Read.val_main_v285 (F := Ideal) x0 x1 x2 x3 x4 x5 x6 x7 x8
      = Cert.OddRefIdeal.Read.val_main_v285 (F := Ideal) y0 y1 y2 y3 y4 y5 y6 y7 y8 := by
  rw [h0, h1, h2, h3, h4, h5, h6, h7, h8]

/-- The convolution layer's result is the reference's. -/
theorem value : Cert.algebraic_OddIdeal_OddRefIdeal := by
  pair_intro
  · refine (θ_run _ _ _).mono (fun r h c => ⟨?_, h.2 c⟩)
      (θ_run_and (Cert.OddIdeal.Hand.run_main m g) (Cert.OddIdeal.Hand.unchanged m g))
    exact (h.1 c).1 9
  · refine (θ_run _ _ _).mono (fun r h c => ⟨(h c).1.trans ?_, (h c).2⟩) (Cert.OddRefIdeal.Value.run (F := Ideal) m' g')
    refine (Cert.OddRefIdeal.Read.val_main_v285_eq (StableHlo.launchContents m' c)).trans ?_
    obtain ⟨a0, a1, a2, a3, a4, a5, a6, a7, a8⟩ := hagree c
    exact (ref_congr a0 a1 a2 a3 a4 a5 a6 a7 a8).trans (Cert.OddIdeal.Hand.final m c).symm

end Cert.Odd.Hand

end
-- ==== Proof.OddPlain.Runs.lean ====
/- What the two runs of the kernel as printed are stated over. -/
module

public import proofs.«01_k».proof.Proof.Gen.Odd.Launch
public import proofs.«01_k».proof.Proof.Gen.Odd.Skeleton
public import proofs.«01_k».proof.Proof.Gen.Odd.Loops
public import proofs.«01_k».proof.Proof.Gen.Odd.Points
public import proofs.«01_k».proof.Proof.Gen.Odd.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Odd.Plain

open Cert.Odd Cert.Odd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Odd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S38x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S68x8x1024 .f32 := Memref.whole cc0_scratch0
abbrev scM0_1 : Memref sig .tc .vmem S512x1024 .f32 := Memref.whole cc0_scratch1
/-- The scratch `arg12` the kernel carries between points, as a view: what it holds is stated through it. -/
abbrev VS0_0 : View sig .tc .vmem S68x8x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Odd.Plain

end
-- ==== Proof.OddPlain.RunA.lean ====
/- The run of the kernel as printed at the first row tile of a sequence. -/
module

public import proofs.«01_k».proof.Proof.OddPlain.Runs

@[expose] public section

-- membership in a rectangle of production extents (`View.cover_of_tiled`): the elaborator's structural look
-- recurses once per coordinate of the long axes
set_option maxRecDepth 16384

noncomputable section

namespace Cert.Odd.Plain

open Cert.Odd Cert.Odd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0, 4, … 60: 16 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def bodyRun_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) :
    { LS0 : List (View.Piece (Elt F) S68x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d)) -∗ K ⟨⟩))
          ⊢ wp frame (wpE (defs₀ (F := F)) Variants.none c none) E (cc0_odd_layer i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_odd_layer_eq_skeleton]; unfold cc0_odd_layer_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [HS0]; · iexists _; iexact HS0
    iexists _, _; isplitr; swap; · iexact HS1
    ipureintro; rfl

end Cert.Odd.Plain

end
-- ==== Proof.OddPlain.RunB.lean ====
/- The run of the kernel as printed at a later row tile. -/
module

public import proofs.«01_k».proof.Proof.OddPlain.RunA

@[expose] public section

-- membership in a rectangle of production extents (`View.cover_of_tiled`): the elaborator's structural look
-- recurses once per coordinate of the long axes
set_option maxRecDepth 16384

noncomputable section

namespace Cert.Odd.Plain

open Cert.Odd Cert.Odd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 63: 48 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9) at anything, handed back at some contents nothing names. -/
noncomputable def bodyRun_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : ¬cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) (xs0 : Vec F S68x8x1024 .f32) :
    { LS0 : List (View.Piece (Elt F) S68x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d)) -∗ K ⟨⟩))
          ⊢ wp frame (wpE (defs₀ (F := F)) Variants.none c none) E (cc0_odd_layer i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_odd_layer_eq_skeleton]; unfold cc0_odd_layer_skel
    simp only [k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [HS0]; · iexists _; iexact HS0
    iexists _, _; isplitr; swap; · iexact HS1
    ipureintro; rfl

end Cert.Odd.Plain

end
-- ==== Proof.OddPlain.Frame.lean ====
/- The frame of the kernel as printed, its output at some contents. -/
module

public import proofs.«01_k».proof.Proof.OddPlain.RunB
public import Idealize.ShloMosaic.Lib.Claim

@[expose] public section

-- membership in a rectangle of production extents (`View.cover_of_tiled`): the elaborator's structural look
-- recurses once per coordinate of the long axes
set_option maxRecDepth 16384

noncomputable section

namespace Cert.Odd.Plain

open Cert.Odd Cert.Odd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 3 pieces (stores and landed copies) of several sizes (`S4x8x1024`, `S64x8x1024`) tiling it when cut into blocks of `![4, 8, 1024]` (Lib/Ring.lean `Piece.tiledBy`). -/
theorem scover0_A_0 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) (y : S68x8x1024.Idx) :
    ∃ pc ∈ (bodyRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledBy (bodyRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 ![4, 8, 1024] (by sl_kernel_rfl) y

/-- What case A leaves in scratch `arg12`: its pieces read back over junk. -/
def sout0_A_0 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) : Vec F S68x8x1024 .f32 :=
  VS0_0.read (Elt F) (VS0_0.writes (Elt F) VS0_0.junk (bodyRun_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

/-- Case B's pieces for scratch `arg12`, which the kernel carries between points, cover it: 2 pieces (stores and landed copies) of several sizes (`S4x8x1024`, `S64x8x1024`) tiling it when cut into blocks of `![4, 8, 1024]` (Lib/Ring.lean `Piece.tiledBy`). -/
theorem scover0_B_0 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : ¬cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) (xs0 : Vec F S68x8x1024 .f32) (y : S68x8x1024.Idx) :
    ∃ pc ∈ (bodyRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1, y ∈ pc.1.set :=
  View.cover_of_tiledBy (bodyRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1 ![4, 8, 1024] (by sl_kernel_rfl) y

/-- What case B leaves in scratch `arg12`: its pieces read back over junk. -/
def sout0_B_0 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S38x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S68x8x1024 .f32) (harg12 : arg12.IsWhole) (arg13 : Memref sig .tc .vmem S512x1024 .f32) (harg13 : arg13.IsWhole) (hc0 : ¬cond0_0 i)
    (x0 : Vec F S1x512x1024 .f32) (x1 : Vec F S1x1024 .f32) (x2 : Vec F S1024x3072 .bf16) (x3 : Vec F S38x8x1024 .f32) (x4 : Vec F S1x1024 .f32) (x5 : Vec F S1x1024 .f32) (x6 : Vec F S1x1024 .f32) (x7 : Vec F S1024x1024 .bf16) (x8 : Vec F S1x1024 .f32) (xs0 : Vec F S68x8x1024 .f32) : Vec F S68x8x1024 .f32 :=
  VS0_0.read (Elt F) (VS0_0.writes (Elt F) VS0_0.junk (bodyRun_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S68x8x1024 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((bodyRun_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((bodyRun_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((bodyRun_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Odd`'s statement (Defs.lean) at any `F` — Proof.lean cites it at `Bits`:
    its frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Odd.Plain

end
-- ==== Proof.EvenIn.Reads.lean ====
/- What the even layers' projection reads: its operands, by the arguments. -/
module

public import proofs.«01_k».proof.Proof.Gen.EvenInIdeal.Frame
public import proofs.«01_k».proof.Proof.Gen.EvenInIdeal.Points
public import Idealize.ShloMosaic.Lib.Tactic
public import Idealize.ShloMosaic.Lib.Pointwise
public import Idealize.ShloMosaic.Lib.Pipeline.ValueKit

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic

variable (m : (ℓ : Loc nD τ sig) → Buf (Elt Ideal) ℓ) (c : Dev nD)

/-- The windows' index maps: rows by the grid point; every other operand is one block. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- Row `r` of a grid point's block. -/
def rowOf (t : Fin cfg0.N) (r : ℕ) (hr : r < 512) : Fin 32768 :=
  ⟨512 * t.val + r, by have : t.val < 64 := Nat.lt_of_lt_of_eq t.isLt N_0; omega⟩

/-- Argument 1 as the body's row. -/
theorem V_gain (k : Fin 1024) : V m c main_v6 (ix2 0 k) = m ((c : Thread nD τ).loc main_arg1) (ix1 k) := by
  unfold V
  simp only [hostOps0, List.flatten_cons, List.flatten_nil, List.append_nil, List.cons_append, List.nil_append]
  after_results
  pointwise []

/-- Argument 3 as the body's row. -/
theorem V_scale (k : Fin 512) : V m c main_v7 (ix2 0 k) = m ((c : Thread nD τ).loc main_arg3) (ix1 k) := by
  unfold V
  simp only [hostOps0, List.flatten_cons, List.flatten_nil, List.append_nil, List.cons_append, List.nil_append]
  after_results
  pointwise []

/-- Argument 4 as the body's row. -/
theorem V_shift (k : Fin 512) : V m c main_v8 (ix2 0 k) = m ((c : Thread nD τ).loc main_arg4) (ix1 k) := by
  unfold V
  simp only [hostOps0, List.flatten_cons, List.flatten_nil, List.append_nil, List.cons_append, List.nil_append]
  after_results
  pointwise []

/-- The weights as the host lays them out: the columns of the gates last, then zeros. -/
theorem V_w_eq : V m c main_v5 = (concatenate S1024x3456 1
    [⟨S1024x1280, extractStridedSlice S1024x1280 ![0, 0] (m ((c : Thread nD τ).loc main_arg2)) slices_S1024x3352_S1024x1280_0_0⟩,
     ⟨S1024x2048, extractStridedSlice S1024x2048 ![0, 1304] (m ((c : Thread nD τ).loc main_arg2)) slices_S1024x3352_S1024x2048_0_1304⟩,
     ⟨S1024x24, extractStridedSlice S1024x24 ![0, 1280] (m ((c : Thread nD τ).loc main_arg2)) slices_S1024x3352_S1024x24_0_1280⟩,
     ⟨S1024x104, broadcastInDim S1024x104 ![] bcast_S_S1024x104 (constant (F := Ideal) S_ .f32 0x00000000#32)⟩]
    concatenates_S1024x1280_S1024x2048_S1024x24_S1024x104_S1024x3456_d1 : S1024x3456.Idx → EReal) := by
  unfold V
  simp only [hostOps0, List.flatten_cons, List.flatten_nil, List.append_nil, List.cons_append, List.nil_append]
  after_results
  rfl

/-- The permuted weights, by the column. -/
theorem V_w (k : Fin 1024) (j : Fin 3456) : V m c main_v5 (ix2 k j) =
   if h : j.val < 1280 then m ((c : Thread nD τ).loc main_arg2) (ix2 k ⟨j.val, by omega⟩)
   else if h1 : j.val < 3328 then m ((c : Thread nD τ).loc main_arg2) (ix2 k ⟨j.val + 24, by omega⟩)
   else if h2 : j.val < 3352 then m ((c : Thread nD τ).loc main_arg2) (ix2 k ⟨j.val - 2048, by omega⟩)
   else (0 : EReal) := by
  rw [V_w_eq]
  pointwise []
  by_cases h0 : j.val < 1280
  · rw [dif_pos h0, dif_pos h0]
  rw [dif_neg h0, dif_neg h0]
  by_cases h1 : j.val < 3328
  · rw [dif_pos (show j.val - 1280 < 2048 by omega), dif_pos h1]
    congr 3; omega
  rw [dif_neg (show ¬ j.val - 1280 < 2048 by omega), dif_neg h1]
  by_cases h2 : j.val < 3352
  · rw [dif_pos (show j.val - 1280 - 2048 < 24 by omega), dif_pos h2]
    congr 3; omega
  · rw [dif_neg (show ¬ j.val - 1280 - 2048 < 24 by omega), dif_neg h2]

theorem blk0 (t : Fin cfg0.N) (r : Fin 512) (k : Fin 1024) :
    iblk m c 0 t (ix2 r k) = m ((c : Thread nD τ).loc main_arg0) (ix2 (rowOf t r.val r.isLt) k) := by
  unfold rowOf
  blk_ext [iblk, V, idx t]

theorem blk1 (t : Fin cfg0.N) (k : Fin 1024) : iblk m c 1 t (ix2 0 k) = m ((c : Thread nD τ).loc main_arg1) (ix1 k) := by
  refine Eq.trans (b := V m c main_v6 (ix2 0 k)) ?_ (V_gain m c k)
  blk_ext [iblk, idx t]

theorem blk3 (t : Fin cfg0.N) (k : Fin 512) : iblk m c 3 t (ix2 0 k) = m ((c : Thread nD τ).loc main_arg3) (ix1 k) := by
  refine Eq.trans (b := V m c main_v7 (ix2 0 k)) ?_ (V_scale m c k)
  blk_ext [iblk, idx t]

theorem blk4 (t : Fin cfg0.N) (k : Fin 512) : iblk m c 4 t (ix2 0 k) = m ((c : Thread nD τ).loc main_arg4) (ix1 k) := by
  refine Eq.trans (b := V m c main_v8 (ix2 0 k)) ?_ (V_shift m c k)
  blk_ext [iblk, idx t]

theorem blk2 (t : Fin cfg0.N) (k : Fin 1024) (j : Fin 3456) : iblk m c 2 t (ix2 k j) = V m c main_v5 (ix2 k j) := by
  blk_ext [iblk, idx t]

/-- The first columns of the weights are the argument's. -/
theorem low (k : Fin 1024) (j : ℕ) (hj : j < 1280) (h : j < 3456) :
    V m c main_v5 (ix2 k ⟨j, h⟩) = m ((c : Thread nD τ).loc main_arg2) (ix2 k ⟨j, by omega⟩) := by
  rw [V_w, dif_pos hj]

/-- The columns after the gates', moved before them. -/
theorem mid (k : Fin 1024) (j : ℕ) (h0 : 1280 ≤ j) (h1 : j < 3328) (h : j < 3456) :
    V m c main_v5 (ix2 k ⟨j, h⟩) = m ((c : Thread nD τ).loc main_arg2) (ix2 k ⟨j + 24, by omega⟩) := by
  rw [V_w, dif_neg (by show ¬ j < 1280; omega), dif_pos h1]

/-- The gates' columns. -/
theorem gates (k : Fin 1024) (j : ℕ) (h0 : 3328 ≤ j) (h1 : j < 3352) (h : j < 3456) :
    V m c main_v5 (ix2 k ⟨j, h⟩) = m ((c : Thread nD τ).loc main_arg2) (ix2 k ⟨j - 2048, by omega⟩) := by
  rw [V_w, dif_neg (by show ¬ j < 1280; omega), dif_neg (by show ¬ j < 3328; omega), dif_pos h1]

/-- The columns that fill the gates' block. -/
theorem fill (k : Fin 1024) (j : ℕ) (h0 : 3352 ≤ j) (h : j < 3456) :
    V m c main_v5 (ix2 k ⟨j, h⟩) = (0 : EReal) := by
  rw [V_w, dif_neg (by show ¬ j < 1280; omega), dif_neg (by show ¬ j < 3328; omega), dif_neg (by show ¬ j < 3352; omega)]

end Cert.EvenInIdeal.Hand

end
-- ==== Proof.EvenIn.Value.lean ====
/- The projection's block is the reference's rows. -/
module

public import proofs.«01_k».proof.Proof.EvenIn.Reads
public import proofs.«01_k».proof.Proof.Gen.EvenInRefIdeal.Read

@[expose] public section

set_option maxRecDepth 16384

noncomputable section

namespace Cert.EvenInIdeal.Hand

open Cert.EvenInIdeal Cert.EvenInIdeal.Gen
open Cert.EvenInRefIdeal.Read
open Idealize.ShloMosaic Idealize.ShloMosaic.TcCoe Idealize.ShloMosaic.Tactic

variable (m : (ℓ : Loc nD τ sig) → Buf (Elt Ideal) ℓ) (c : Dev nD)

/-- The normalised rows. -/
theorem norm_at (t : Fin cfg0.N) (r : Fin 512) (k : Fin 1024) :
    k0_pay1 (F := Ideal) (iblk m c 0 t) (iblk m c 1 t) (ix2 r k)
      = val_main_v12 (F := Ideal) (m ((c : Thread nD τ).loc main_arg0)) (m ((c : Thread nD τ).loc main_arg1)) (ix2 (rowOf t r.val r.isLt) k) := by
  pointwise [k0_pay1, val_main_v0, val_main_v1, val_main_v2, val_main_v3, val_main_v4, val_main_v5, val_main_v6, val_main_v7, val_main_v8, val_main_v9, val_main_v10, val_main_v11, val_main_v12, val_main_cst, val_main_cst_0, val_main_cst_1]
  simp only [blk0, blk1]

/-- The cube, bracketed to the left. -/
theorem cube (a : EReal) : a * (a * a) = a * a * a := (mul_assoc a a a).symm

/-- The integer zero as a float. -/
theorem sitofp_zero : (FloatOps.sitofp (F := Ideal) .f32 (0#32) : EReal) = 0 := by
  show (((0#32 : BitVec 32).toInt : ℝ) : EReal) = 0
  simp

variable (t : Fin cfg0.N) (H : FVec Ideal S512x1024 .bf16)
  (hH : ∀ (r : Fin 512) (k : Fin 1024), H (ix2 r k) = val_main_v12 (F := Ideal) (m ((c : Thread nD τ).loc main_arg0)) (m ((c : Thread nD τ).loc main_arg1)) (ix2 (rowOf t r.val r.isLt) k))

include hH in
/-- The queries. -/
theorem q_at (X0 : Vec Ideal S512x1024 .f32) (X1 : Vec Ideal S1x1024 .f32) (hX : k0_pay1 (F := Ideal) X0 X1 = H)
    (B : Vec Ideal S1024x512 .bf16) (hB : ∀ (k : Fin 1024) (j : Fin 512), B (ix2 k j) = (m ((c : Thread nD τ).loc main_arg2)) (ix2 k ⟨j.val, by omega⟩))
    (r : Fin 512) (j : Fin 512) :
    k0_pay2 (F := Ideal) X0 X1 B (ix2 r j)
      = val_main_v81 (F := Ideal) (m ((c : Thread nD τ).loc main_arg0)) (m ((c : Thread nD τ).loc main_arg1)) (m ((c : Thread nD τ).loc main_arg2)) (ix2 (rowOf t r.val r.isLt) j) := by
  pointwise [k0_pay2, val_main_v14, val_main_v26, val_main_v27, val_main_cst_2, val_main_v13, val_main_v81]
  simp only [hX, hH, hB]

include hH in
/-- The keys and values to be compressed. -/
theorem kc_at (X0 : Vec Ideal S512x1024 .f32) (X1 : Vec Ideal S1x1024 .f32) (hX : k0_pay1 (F := Ideal) X0 X1 = H)
    (B : Vec Ideal S1024x256 .bf16) (hB : ∀ (k : Fin 1024) (j : Fin 256), B (ix2 k j) = (m ((c : Thread nD τ).loc main_arg2)) (ix2 k ⟨512 + j.val, by omega⟩))
    (r : Fin 512) (j : Fin 256) :
    k0_pay3 (F := Ideal) X0 X1 B (ix2 r j)
      = val_main_v82 (F := Ideal) (m ((c : Thread nD τ).loc main_arg0)) (m ((c : Thread nD τ).loc main_arg1)) (m ((c : Thread nD τ).loc main_arg2)) (ix2 (rowOf t r.val r.isLt) j) := by
  pointwise [k0_pay3, val_main_v15, val_main_v16, val_main_v28, val_main_v13, val_main_v82]
  simp only [hX, hH, hB]
  split
  · rfl
  · exact Finset.sum_congr rfl fun k _ => congrArg (fun i => _ * m ((c : Thread nD τ).loc main_arg2) (ix2 k i)) (Fin.ext (by first | omega | (dsimp only; omega) | dsimp only))

include hH in
/-- The other keys and values. -/
theorem ks_at (X0 : Vec Ideal S512x1024 .f32) (X1 : Vec Ideal S1x1024 .f32) (hX : k0_pay1 (F := Ideal) X0 X1 = H)
    (B : Vec Ideal S1024x512 .bf16) (hB : ∀ (k : Fin 1024) (j : Fin 512), B (ix2 k j) = (m ((c : Thread nD τ).loc main_arg2)) (ix2 k ⟨768 + j.val, by omega⟩))
    (r : Fin 512) (j : Fin 512) :
    k0_pay4 (F := Ideal) X0 X1 B (ix2 r j)
      = val_main_v83 (F := Ideal) (m ((c : Thread nD τ).loc main_arg0)) (m ((c : Thread nD τ).loc main_arg1)) (m ((c : Thread nD τ).loc main_arg2)) (ix2 (rowOf t r.val r.isLt) j) := by
  pointwise [k0_pay4, val_main_v17, val_main_v18, val_main_v19, val_main_v20, val_main_v29, val_main_v13, val_main_v83]
  simp only [hX, hH, hB]
  split_ifs
  · rfl
  all_goals exact Finset.sum_congr rfl fun k _ => congrArg (fun i => _ * m ((c : Thread nD τ).loc main_arg2) (ix2 k i)) (Fin.ext (by first | omega | (dsimp only; omega) | dsimp only))

include hH in
/-- The attention's gate. -/
theorem sa_at (B : Vec Ideal S1024x512 .bf16) (hB : ∀ (k : Fin 1024) (j : Fin 512), B (ix2 k j) = (m ((c : Thread nD τ).loc main_arg2)) (ix2 k ⟨1304 + j.val, by omega⟩))
    (r : Fin 512) (j : Fin 512) :
    k0_pay5 (F := Ideal) H B (ix2 r j)
      = val_main_v84 (F := Ideal) (m ((c : Thread nD τ).loc main_arg0)) (m ((c : Thread nD τ).loc main_arg1)) (m ((c : Thread nD τ).loc main_arg2)) (ix2 (rowOf t r.val r.isLt) j) := by
  pointwise [k0_pay5, val_main_v22, val_main_call0_v0, val_main_call0_v1, val_main_call0_cst, val_main_call0_v2, val_main_call0_v3, val_main_call0_cst_0, val_main_call0_v4, val_main_call0_v5, val_main_v30, val_main_v13, val_main_v84]
  simp only [hH, hB, Ideal.logistic]

include hH in
/-- The spatial unit's gated factor. -/
theorem us_at (B : Vec Ideal S1024x512 .bf16) (hB : ∀ (k : Fin 1024) (j : Fin 512), B (ix2 k j) = (m ((c : Thread nD τ).loc main_arg2)) (ix2 k ⟨1816 + j.val, by omega⟩))
    (D : Vec Ideal S1024x512 .bf16) (hD : ∀ (k : Fin 1024) (j : Fin 512), D (ix2 k j) = (m ((c : Thread nD τ).loc main_arg2)) (ix2 k ⟨2840 + j.val, by omega⟩))
    (r : Fin 512) (j : Fin 512) :
    k0_pay6 (F := Ideal) H B D (ix2 r j)
      = val_main_v85 (F := Ideal) (m ((c : Thread nD τ).loc main_arg0)) (m ((c : Thread nD τ).loc main_arg1)) (m ((c : Thread nD τ).loc main_arg2)) (ix2 (rowOf t r.val r.isLt) j) := by
  pointwise [k0_pay6, val_main_v23, val_main_v25, val_main_v31, val_main_v32, val_main_cst_3, val_main_v33, val_main_v34, val_main_v35, val_main_cst_4, val_main_v36, val_main_v37, val_main_v38, val_main_cst_5, val_main_v39, val_main_v40, val_main_cst_6, val_main_v41, val_main_v42, val_main_v43, val_main_call1_v0, val_main_call1_v1, val_main_call1_cst, val_main_call1_v2, val_main_call1_v3, val_main_call1_cst_0, val_main_call1_v4, val_main_call1_v5, val_main_v44, val_main_v45, val_main_v13, val_main_v85]
  simp only [hH, hB, hD, Ideal.logistic, cube]

include hH in
/-- The spatial unit's normalised factor. -/
theorem vn_at (B : Vec Ideal S1024x512 .bf16) (hB : ∀ (k : Fin 1024) (j : Fin 512), B (ix2 k j) = (m ((c : Thread nD τ).loc main_arg2)) (ix2 k ⟨2328 + j.val, by omega⟩))
    (X3 X4 : Vec Ideal S1x512 .f32) (h3 : ∀ k : Fin 512, X3 (ix2 0 k) = (m ((c : Thread nD τ).loc main_arg3)) (ix1 k))
    (h4 : ∀ k : Fin 512, X4 (ix2 0 k) = (m ((c : Thread nD τ).loc main_arg4)) (ix1 k)) (r : Fin 512) (j : Fin 512) :
    k0_pay10 (F := Ideal) (k0_pay7 H B) (k0_pay8 H B) (k0_pay9 (F := Ideal)) X3 X4 (ix2 r j)
      = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t r.val r.isLt) j) := by
  pointwise [k0_pay7, k0_pay8, k0_pay9, k0_pay10, val_main_v24, val_main_v46, val_main_v47, val_main_cst_7, val_main_v48, val_main_v49, val_main_v50, val_main_cst_8, val_main_v51, val_main_v52, val_main_v53, val_main_cst_9, val_main_v54, val_main_v55, val_main_cst_10, val_main_v56, val_main_v57, val_main_v58, val_main_cst_11, val_main_v59, val_main_v60, val_main_cst_12, val_main_v61, val_main_v62, val_main_v63, val_main_v64, val_main_v65, val_main_cst_13, val_main_v66, val_main_v67, val_main_cst_14, val_main_v68, val_main_v69, val_main_cst_15, val_main_v70, val_main_v71, val_main_v72, val_main_v73, val_main_v74, val_main_v75, val_main_v76, val_main_v77, val_main_v78, val_main_v79, val_main_v80, val_main_v13, val_main_v86]
  simp only [hH, hB, h3, h4, cube]

include hH in
/-- The branches' gates. -/
theorem gate_at (B : Vec Ideal S1024x128 .bf16) (hB : ∀ (k : Fin 1024) (j : Fin 128), B (ix2 k j) = if h : j.val < 24 then (m ((c : Thread nD τ).loc main_arg2)) (ix2 k ⟨1280 + j.val, by omega⟩) else (0 : EReal))
    (r : Fin 512) (j : Fin 128) :
    k0_pay11 (F := Ideal) H B (ix2 r j)
      = val_main_v93 (F := Ideal) (m ((c : Thread nD τ).loc main_arg0)) (m ((c : Thread nD τ).loc main_arg1)) (m ((c : Thread nD τ).loc main_arg2)) (ix2 (rowOf t r.val r.isLt) j) := by
  pointwise [k0_pay11, val_main_v21, val_main_c, val_main_call2_v0, val_main_v87, val_main_v88, val_main_v89, val_main_cst_16, val_main_v90, val_main_v91, val_main_cst_17, val_main_v92, val_main_v13, val_main_v93]
  simp only [hH, hB, Ideal.logistic]
  by_cases h : j.val < 24
  · simp only [dif_pos h]
  · simp only [dif_neg h, mul_zero, Finset.sum_const_zero]
    rw [sitofp_zero]

end Cert.EvenInIdeal.Hand

end
-- ==== Proof.EvenIn.Final.lean ====
/- The projection's results are the reference's. -/
module

public import proofs.«01_k».proof.Proof.EvenIn.Value
public import Idealize.ShloMosaic.Lib.Pipeline.ValueKit

@[expose] public section

set_option maxRecDepth 16384

noncomputable section

namespace Cert.EvenInIdeal.Hand

open Cert.EvenInIdeal Cert.EvenInIdeal.Gen
open Cert.EvenInRefIdeal.Read
open Idealize.ShloMosaic Idealize.ShloMosaic.TcCoe Idealize.ShloMosaic.Tactic

variable (m : (ℓ : Loc nD τ sig) → Buf (Elt Ideal) ℓ) (c : Dev nD)

/-- The queries' columns. -/
theorem w_q (t : Fin cfg0.N) (k : Fin 1024) (j : Fin 512) :
    (View.ld (iblk m c 2 t) r0_2 : Vec Ideal S1024x512 .bf16) (ix2 k j) = (m ((c : Thread nD τ).loc main_arg2)) (ix2 k ⟨j.val, by omega⟩) := by
  refine Eq.trans (b := iblk m c 2 t (ix2 k ⟨j.val, by omega⟩)) ?_ ((blk2 m c t k _).trans (low m c k (j.val) (by omega) _))
  pointwise []

/-- The columns of the keys and values to be compressed. -/
theorem w_kc (t : Fin cfg0.N) (k : Fin 1024) (j : Fin 256) :
    (View.ld (iblk m c 2 t) r0_4 : Vec Ideal S1024x256 .bf16) (ix2 k j) = (m ((c : Thread nD τ).loc main_arg2)) (ix2 k ⟨512 + j.val, by omega⟩) := by
  refine Eq.trans (b := iblk m c 2 t (ix2 k ⟨512 + j.val, by omega⟩)) ?_ ((blk2 m c t k _).trans (low m c k (512 + j.val) (by omega) _))
  pointwise []

/-- The other keys' and values' columns. -/
theorem w_ks (t : Fin cfg0.N) (k : Fin 1024) (j : Fin 512) :
    (View.ld (iblk m c 2 t) r0_6 : Vec Ideal S1024x512 .bf16) (ix2 k j) = (m ((c : Thread nD τ).loc main_arg2)) (ix2 k ⟨768 + j.val, by omega⟩) := by
  refine Eq.trans (b := iblk m c 2 t (ix2 k ⟨768 + j.val, by omega⟩)) ?_ ((blk2 m c t k _).trans (low m c k (768 + j.val) (by omega) _))
  pointwise []

/-- The attention's gate's columns. -/
theorem w_sa (t : Fin cfg0.N) (k : Fin 1024) (j : Fin 512) :
    (View.ld (iblk m c 2 t) r0_7 : Vec Ideal S1024x512 .bf16) (ix2 k j) = (m ((c : Thread nD τ).loc main_arg2)) (ix2 k ⟨1304 + j.val, by omega⟩) := by
  refine Eq.trans (b := iblk m c 2 t (ix2 k ⟨1280 + j.val, by omega⟩)) ?_ ((blk2 m c t k _).trans ((mid m c k (1280 + j.val) (by omega) (by omega) _).trans ?_))
  · pointwise []
  · exact congrArg (fun i => (m ((c : Thread nD τ).loc main_arg2)) (ix2 k i)) (Fin.ext (show 1280 + j.val + 24 = 1304 + j.val by omega))

/-- The spatial unit's first columns. -/
theorem w_u (t : Fin cfg0.N) (k : Fin 1024) (j : Fin 512) :
    (View.ld (iblk m c 2 t) r0_8 : Vec Ideal S1024x512 .bf16) (ix2 k j) = (m ((c : Thread nD τ).loc main_arg2)) (ix2 k ⟨1816 + j.val, by omega⟩) := by
  refine Eq.trans (b := iblk m c 2 t (ix2 k ⟨1792 + j.val, by omega⟩)) ?_ ((blk2 m c t k _).trans ((mid m c k (1792 + j.val) (by omega) (by omega) _).trans ?_))
  · pointwise []
  · exact congrArg (fun i => (m ((c : Thread nD τ).loc main_arg2)) (ix2 k i)) (Fin.ext (show 1792 + j.val + 24 = 1816 + j.val by omega))

/-- The spatial unit's normalised columns. -/
theorem w_v (t : Fin cfg0.N) (k : Fin 1024) (j : Fin 512) :
    (View.ld (iblk m c 2 t) r0_10 : Vec Ideal S1024x512 .bf16) (ix2 k j) = (m ((c : Thread nD τ).loc main_arg2)) (ix2 k ⟨2328 + j.val, by omega⟩) := by
  refine Eq.trans (b := iblk m c 2 t (ix2 k ⟨2304 + j.val, by omega⟩)) ?_ ((blk2 m c t k _).trans ((mid m c k (2304 + j.val) (by omega) (by omega) _).trans ?_))
  · pointwise []
  · exact congrArg (fun i => (m ((c : Thread nD τ).loc main_arg2)) (ix2 k i)) (Fin.ext (show 2304 + j.val + 24 = 2328 + j.val by omega))

/-- The spatial unit's gate's columns. -/
theorem w_zb (t : Fin cfg0.N) (k : Fin 1024) (j : Fin 512) :
    (View.ld (iblk m c 2 t) r0_9 : Vec Ideal S1024x512 .bf16) (ix2 k j) = (m ((c : Thread nD τ).loc main_arg2)) (ix2 k ⟨2840 + j.val, by omega⟩) := by
  refine Eq.trans (b := iblk m c 2 t (ix2 k ⟨2816 + j.val, by omega⟩)) ?_ ((blk2 m c t k _).trans ((mid m c k (2816 + j.val) (by omega) (by omega) _).trans ?_))
  · pointwise []
  · exact congrArg (fun i => (m ((c : Thread nD τ).loc main_arg2)) (ix2 k i)) (Fin.ext (show 2816 + j.val + 24 = 2840 + j.val by omega))

/-- The branches' gates' columns, and zeros after them. -/
theorem w_g (t : Fin cfg0.N) (k : Fin 1024) (j : Fin 128) :
    (View.ld (iblk m c 2 t) r0_12 : Vec Ideal S1024x128 .bf16) (ix2 k j) = if h : j.val < 24 then (m ((c : Thread nD τ).loc main_arg2)) (ix2 k ⟨1280 + j.val, by omega⟩) else (0 : EReal) := by
  refine Eq.trans (b := iblk m c 2 t (ix2 k ⟨3328 + j.val, by omega⟩)) ?_ ((blk2 m c t k _).trans ?_)
  · pointwise []
  by_cases h : j.val < 24
  · rw [gates m c k (3328 + j.val) (by omega) (by omega), dif_pos h]
    exact congrArg (fun i => (m ((c : Thread nD τ).loc main_arg2)) (ix2 k i)) (Fin.ext (show 3328 + j.val - 2048 = 1280 + j.val by omega))
  · rw [fill m c k (3328 + j.val) (by omega), dif_neg h]

/-- The normalised rows, as the body loads them. -/
theorem rows (t : Fin cfg0.N) (r : Fin 512) (k : Fin 1024) :
    k0_pay1 (F := Ideal) (iblk m c 0 t) (iblk m c 1 t) (ix2 r k)
      = val_main_v12 (F := Ideal) (m ((c : Thread nD τ).loc main_arg0)) (m ((c : Thread nD τ).loc main_arg1)) (ix2 (rowOf t r.val r.isLt) k) := norm_at m c t r k

/-- The same rows, where the body names them once. -/
theorem rows' (t : Fin cfg0.N) (r : Fin 512) (k : Fin 1024) :
    k0_pay12 (F := Ideal) (iblk m c 0 t) (iblk m c 1 t) (iblk m c 2 t) (iblk m c 3 t) (iblk m c 4 t) (ix2 r k)
      = val_main_v12 (F := Ideal) (m ((c : Thread nD τ).loc main_arg0)) (m ((c : Thread nD τ).loc main_arg1)) (ix2 (rowOf t r.val r.isLt) k) := by
  refine Eq.trans ?_ (rows m c t r k)
  unfold k0_pay12
  frame_out

/-- The queries. -/
theorem final5 : (dats m 0 c).arrAt 5 (cfgs 0).N = val_main_v81 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [show y = ix2 (y 0) (y 1) by funext a; fin_cases a <;> rfl]
  refine (q_at m c t _ (rows m c t) _ _ rfl _ (w_q m c t) (y 0) (y 1)).trans ?_
  unfold rowOf
  blk_ext [idx t]

/-- The keys and values to be compressed. -/
theorem final6 : (dats m 0 c).arrAt 6 (cfgs 0).N = val_main_v82 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [show y = ix2 (y 0) (y 1) by funext a; fin_cases a <;> rfl]
  refine (kc_at m c t _ (rows m c t) _ _ rfl _ (w_kc m c t) (y 0) (y 1)).trans ?_
  unfold rowOf
  blk_ext [idx t]

/-- The other keys and values. -/
theorem final7 : (dats m 0 c).arrAt 7 (cfgs 0).N = val_main_v83 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  rw [show y = ix2 (y 0) (y 1) by funext a; fin_cases a <;> rfl]
  refine (ks_at m c t _ (rows m c t) _ _ rfl _ (w_ks m c t) (y 0) (y 1)).trans ?_
  unfold rowOf
  blk_ext [idx t]

/-- The attention's gate. -/
theorem final8 : (dats m 0 c).arrAt 8 (cfgs 0).N = val_main_v84 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  rw [show y = ix2 (y 0) (y 1) by funext a; fin_cases a <;> rfl]
  refine (sa_at m c t _ (rows' m c t) _ (w_sa m c t) (y 0) (y 1)).trans ?_
  unfold rowOf
  blk_ext [idx t]

/-- The spatial unit's gated factor. -/
theorem final9 : (dats m 0 c).arrAt 9 (cfgs 0).N = val_main_v85 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  rw [show y = ix2 (y 0) (y 1) by funext a; fin_cases a <;> rfl]
  refine (us_at m c t _ (rows' m c t) _ (w_u m c t) _ (w_zb m c t) (y 0) (y 1)).trans ?_
  unfold rowOf
  blk_ext [idx t]

/-- The spatial unit's normalised factor. -/
theorem final10 : (dats m 0 c).arrAt 10 (cfgs 0).N = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  frame_out
  rw [show y = ix2 (y 0) (y 1) by funext a; fin_cases a <;> rfl]
  refine (vn_at m c t _ (rows' m c t) _ (w_v m c t) _ _ (blk3 m c t) (blk4 m c t) (y 0) (y 1)).trans ?_
  unfold rowOf
  blk_ext [idx t]

/-- The branches' gates. -/
theorem final11 : (dats m 0 c).arrAt 11 (cfgs 0).N = val_main_v93 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  frame_out
  rw [show y = ix2 (y 0) (y 1) by funext a; fin_cases a <;> rfl]
  refine (gate_at m c t _ (rows' m c t) _ (w_g m c t) (y 0) (y 1)).trans ?_
  unfold rowOf
  blk_ext [idx t]

end Cert.EvenInIdeal.Hand

end
-- ==== Proof.EvenIn.Claims.lean ====
/- The claims about the even layer's projection: its reference's frame, and the equality of the seven results. -/
module

public import proofs.«01_k».proof.Defs
public import proofs.«01_k».proof.Proof.EvenIn.Final
public import proofs.«01_k».proof.Proof.Gen.EvenInRefIdeal
public import proofs.«01_k».proof.Proof.Gen.EvenInRefIdeal.Run
public import Idealize.ShloMosaic.Lib.Claim

@[expose] public section

set_option maxRecDepth 16384

noncomputable section

namespace Cert.EvenIn.Hand

open Idealize.ShloMosaic Idealize.ShloMosaic.TcCoe Idealize.SL.Sem
open Cert.EvenInRefIdeal.Read

/-- The reference of the projection runs, and leaves its arguments. -/
theorem frame_ref : Cert.quiescent_EvenInRefIdeal := fun m ρ _ =>
  (θ_run Cert.EvenInRefIdeal.defs _ _).mono
    (fun r h => ⟨fun c => (h c).2.2.2.2.2.2.2, sem_eq_zero_of_no_sems (by decide) r.2⟩)
    (Cert.EvenInRefIdeal.Value.run (F := Ideal) m ρ)

/-- A function of three arguments at equal arguments. -/
theorem congr3 {α β γ δ : Type} (f : α → β → γ → δ) {x x' : α} {y y' : β} {z z' : γ} (hx : x = x') (hy : y = y') (hz : z = z') :
    f x y z = f x' y' z' := by
  rw [hx, hy, hz]

/-- A function of five arguments at equal arguments. -/
theorem congr5 {α β γ δ ε ζ : Type} (f : α → β → γ → δ → ε → ζ) {x x' : α} {y y' : β} {z z' : γ} {u u' : δ} {v v' : ε}
    (hx : x = x') (hy : y = y') (hz : z = z') (hu : u = u') (hv : v = v') : f x y z u v = f x' y' z' u' v' := by
  rw [hx, hy, hz, hu, hv]

/-- The projection's seven results are the reference's. -/
theorem value : Cert.algebraic_EvenInIdeal_EvenInRefIdeal := by
  pair_intro
  · refine (θ_run _ _ _).mono (fun r h c => ⟨?_, ?_, ?_, ?_, ?_, ?_, ?_, h.2 c⟩)
      (θ_run_and (Cert.EvenInIdeal.Gen.run_main m g) (Cert.EvenInIdeal.Gen.unchanged m g))
    · exact (h.1 c).1 5
    · exact (h.1 c).1 6
    · exact (h.1 c).1 7
    · exact (h.1 c).1 8
    · exact (h.1 c).1 9
    · exact (h.1 c).1 10
    · exact (h.1 c).1 11
  · refine (θ_run _ _ _).mono (fun r h c => ?_) (Cert.EvenInRefIdeal.Value.run (F := Ideal) m' g')
    obtain ⟨h81, h82, h83, h84, h85, h86, h93, hargs⟩ := h c
    obtain ⟨a0, a1, a2, a3, a4⟩ := hagree c
    refine ⟨h81.trans ?_, h82.trans ?_, h83.trans ?_, h84.trans ?_, h85.trans ?_, h86.trans ?_, h93.trans ?_, hargs⟩
    · exact ((val_main_v81_eq _ _ _).trans (congr3 (val_main_v81 (F := Ideal)) a0 a1 a2)).trans (Cert.EvenInIdeal.Hand.final5 m c).symm
    · exact ((val_main_v82_eq _ _ _).trans (congr3 (val_main_v82 (F := Ideal)) a0 a1 a2)).trans (Cert.EvenInIdeal.Hand.final6 m c).symm
    · exact ((val_main_v83_eq m' c).trans (congr3 (val_main_v83 (F := Ideal)) a0 a1 a2)).trans (Cert.EvenInIdeal.Hand.final7 m c).symm
    · exact ((val_main_v84_eq _ _ _).trans (congr3 (val_main_v84 (F := Ideal)) a0 a1 a2)).trans (Cert.EvenInIdeal.Hand.final8 m c).symm
    · exact ((val_main_v85_eq m' c).trans (congr3 (val_main_v85 (F := Ideal)) a0 a1 a2)).trans (Cert.EvenInIdeal.Hand.final9 m c).symm
    · exact ((val_main_v86_eq m' c).trans (congr5 (val_main_v86 (F := Ideal)) a0 a1 a2 a3 a4)).trans (Cert.EvenInIdeal.Hand.final10 m c).symm
    · exact ((val_main_v93_eq _ _ _).trans (congr3 (val_main_v93 (F := Ideal)) a0 a1 a2)).trans (Cert.EvenInIdeal.Hand.final11 m c).symm

end Cert.EvenIn.Hand

end
-- ==== Proof.EvenOut.Reads.lean ====
/- What the even layers' output reads: its operands, by the arguments. -/
module

public import proofs.«01_k».proof.Proof.Gen.EvenOutIdeal.Frame
public import proofs.«01_k».proof.Proof.Gen.EvenOutIdeal.Points
public import Idealize.ShloMosaic.Lib.Tactic
public import Idealize.ShloMosaic.Lib.Pointwise
public import Idealize.ShloMosaic.Lib.Pipeline.ValueKit

@[expose] public section

set_option maxRecDepth 16384

noncomputable section

namespace Cert.EvenOutIdeal.Hand

open Cert.EvenOutIdeal Cert.EvenOutIdeal.Gen
open Idealize.ShloMosaic Idealize.ShloMosaic.TcCoe Idealize.ShloMosaic.Tactic

variable (m : (ℓ : Loc nD τ sig) → Buf (Elt Ideal) ℓ) (c : Dev nD)

/-- The windows' index maps: rows by the grid point; every other operand is one block. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- Row `r` of a grid point's block. -/
def rowOf (t : Fin cfg0.N) (r : ℕ) (hr : r < 256) : Fin 32768 :=
  ⟨256 * t.val + r, by have : t.val < 128 := Nat.lt_of_lt_of_eq t.isLt N_0; omega⟩

/-- The offsets of the mixing, as the host lays them out: a group's offset in each of its columns. -/
theorem V_bias (i : Fin 128) (j : Fin 512) :
    V m c main_v2 (ix2 i j) = (m ((c : Thread nD τ).loc main_arg5)) (ix2 ⟨j.val / 64, by omega⟩ i) := by
  unfold V
  simp only [hostOps0, List.flatten_cons, List.flatten_nil, List.append_nil, List.cons_append, List.nil_append]
  after_results
  pointwise []

/-- The weights. -/
theorem V_w (k j : Fin 1024) : V m c main_v3 (ix2 k j) = (m ((c : Thread nD τ).loc main_arg6)) (ix2 k j) := by
  unfold V
  simp only [hostOps0, List.flatten_cons, List.flatten_nil, List.append_nil, List.cons_append, List.nil_append]
  after_results
  pointwise []

/-- Argument 7 as the body's row. -/
theorem V_gain (k : Fin 1024) : V m c main_v4 (ix2 0 k) = (m ((c : Thread nD τ).loc main_arg7)) (ix1 k) := by
  unfold V
  simp only [hostOps0, List.flatten_cons, List.flatten_nil, List.append_nil, List.cons_append, List.nil_append]
  after_results
  pointwise []

theorem blk0 (t : Fin cfg0.N) (r : Fin 256) (k : Fin 512) :
    iblk m c 0 t (ix2 r k) = (m ((c : Thread nD τ).loc main_arg0)) (ix2 (rowOf t r.val r.isLt) k) := by
  unfold rowOf
  blk_ext [iblk, V, idx t]

theorem blk1 (t : Fin cfg0.N) (r : Fin 256) (k : Fin 512) :
    iblk m c 1 t (ix2 r k) = (m ((c : Thread nD τ).loc main_arg1)) (ix2 (rowOf t r.val r.isLt) k) := by
  unfold rowOf
  blk_ext [iblk, V, idx t]

theorem blk2 (t : Fin cfg0.N) (r : Fin 256) (k : Fin 512) :
    iblk m c 2 t (ix2 r k) = (m ((c : Thread nD τ).loc main_arg2)) (ix2 (rowOf t r.val r.isLt) k) := by
  unfold rowOf
  blk_ext [iblk, V, idx t]

theorem blk3 (t : Fin cfg0.N) (r : Fin 256) (k : Fin 512) :
    iblk m c 3 t (ix2 r k) = (m ((c : Thread nD τ).loc main_arg3)) (ix2 (rowOf t r.val r.isLt) k) := by
  unfold rowOf
  blk_ext [iblk, V, idx t]

theorem blk8 (t : Fin cfg0.N) (r : Fin 256) (k : Fin 1024) :
    iblk m c 8 t (ix2 r k) = (m ((c : Thread nD τ).loc main_arg8)) (ix2 (rowOf t r.val r.isLt) k) := by
  unfold rowOf
  blk_ext [iblk, V, idx t]

theorem blk4 (t : Fin cfg0.N) (g : Fin 8) (i k : Fin 128) :
    iblk m c 4 t (ix3 g i k) = (m ((c : Thread nD τ).loc main_arg4)) (ix3 g i k) := by
  blk_ext [iblk, V, idx t]

theorem blk5 (t : Fin cfg0.N) (i : Fin 128) (j : Fin 512) :
    iblk m c 5 t (ix2 i j) = (m ((c : Thread nD τ).loc main_arg5)) (ix2 ⟨j.val / 64, by omega⟩ i) := by
  refine Eq.trans (b := V m c main_v2 (ix2 i j)) ?_ (V_bias m c i j)
  blk_ext [iblk, idx t]

theorem blk6 (t : Fin cfg0.N) (k j : Fin 1024) : iblk m c 6 t (ix2 k j) = (m ((c : Thread nD τ).loc main_arg6)) (ix2 k j) := by
  refine Eq.trans (b := V m c main_v3 (ix2 k j)) ?_ (V_w m c k j)
  blk_ext [iblk, idx t]

theorem blk7 (t : Fin cfg0.N) (k : Fin 1024) : iblk m c 7 t (ix2 0 k) = (m ((c : Thread nD τ).loc main_arg7)) (ix1 k) := by
  refine Eq.trans (b := V m c main_v4 (ix2 0 k)) ?_ (V_gain m c k)
  blk_ext [iblk, idx t]

end Cert.EvenOutIdeal.Hand

end
-- ==== Proof.EvenOut.Spatial.lean ====
/- The spatial unit's mixing: the reference's entry, and the kernel's blocks of 128 rows and columns. -/
module

public import proofs.«01_k».proof.Proof.EvenOut.Reads
public import proofs.«01_k».proof.Proof.Gen.EvenOutRefIdeal.Read

@[expose] public section

set_option maxRecDepth 16384

noncomputable section

namespace Cert.EvenOutIdeal.Hand

open Cert.EvenOutIdeal Cert.EvenOutIdeal.Gen
open Cert.EvenOutRefIdeal.Read
open Idealize.ShloMosaic Idealize.ShloMosaic.TcCoe Idealize.ShloMosaic.Tactic

/-- The reference's mixed entry: the row's chunk, weighted by the row of the group's lower triangle, and the offset. -/
theorem mixed_ref (x3 : S32768x512.Idx → EReal) (x4 : S8x128x128.Idx → EReal) (x5 : S8x128.Idx → EReal)
    (R : Fin 32768) (C : Fin 512) :
    val_main_v13 (F := Ideal) x3 x4 x5 (ix2 R C)
      = ((∑ k : Fin 128, x3 (ix2 ⟨R.val / 128 * 128 + k.val, by omega⟩ C) * val_main_v5 (F := Ideal) x4 (ix3 ⟨C.val / 64, by omega⟩ ⟨R.val % 128, by omega⟩ k))
          + x5 (ix2 ⟨C.val / 64, by omega⟩ ⟨R.val % 128, by omega⟩) : EReal) := by
  pointwise [val_main_v13, val_main_v11, val_main_v10, val_main_v9, val_main_v8, val_main_v7, val_main_v6, val_main_v4, val_main_v3]

/-- The triangle, compared either way. -/
theorem below (a b : BitVec 32) : IntOp.cmpi .sge (IntOp.addi a 0#32) b = IntOp.cmpi .sle b a := by
  unfold IntOp.addi IntOp.cmpi
  simp

/-- The first half of the columns. -/
theorem left_half (j : Fin 128) : IntOp.cmpi .slt (BitVec.ofNat 32 j.val) 64#32 = if j.val < 64 then 1#1 else 0#1 := by
  revert j
  decide +kernel

theorem select_one {α : Type} (a b : α) : Scalar.select 1#1 a b = a := rfl

theorem select_zero {α : Type} (a b : α) : Scalar.select 0#1 a b = b := rfl

/-- A masked weight block is the reference's. -/
theorem mask_at (x4 : S8x128x128.Idx → EReal) (g : Fin 8) (B : Vec Ideal S1x128x128 .f32)
    (hB : ∀ i k : Fin 128, B (ix3 0 i k) = x4 (ix3 g i k)) (i k : Fin 128) :
    k0_pay4 (F := Ideal) B (ix2 i k) = val_main_v5 (F := Ideal) x4 (ix3 g i k) := by
  pointwise [k0_pay4, k0_pay3, val_main_v5, val_main_call0_v0, val_main_call0_c, val_main_call0_v1, val_main_call0_v2, val_main_call0_v3, val_main_call0_v4, val_main_call0_v5, val_main_call0_cst, val_main_call0_v6]
  simp only [hB, below]

/-- A gated block: the two products with the halves of the columns are one. -/
theorem gated (M0 M1 U : Vec Ideal S128x128 .bf16) (W : Vec Ideal S128x128 .bf16) (Bi : Vec Ideal S128x128 .f32) (i j : Fin 128) :
    k0_pay15 (F := Ideal) k0_pay2 M0 M1 W Bi U (ix2 i j)
      = (U (ix2 i j) * ((∑ k : Fin 128, (if j.val < 64 then M0 (ix2 i k) else M1 (ix2 i k)) * W (ix2 k j)) + Bi (ix2 i j)) : EReal) := by
  pointwise [k0_pay15, k0_pay2]
  rw [left_half]
  by_cases h : j.val < 64
  · simp only [h, if_true, select_one, Finset.sum_const_zero, add_zero]
  · simp only [h, if_false, select_zero, Finset.sum_const_zero, zero_add]

end Cert.EvenOutIdeal.Hand

end
-- ==== Proof.EvenOut.Value.lean ====
/- The output's block is the reference's rows. -/
module

public import proofs.«01_k».proof.Proof.EvenOut.Spatial

@[expose] public section

set_option maxRecDepth 16384

noncomputable section

namespace Cert.EvenOutIdeal.Hand

open Cert.EvenOutIdeal Cert.EvenOutIdeal.Gen
open Cert.EvenOutRefIdeal.Read
open Idealize.ShloMosaic Idealize.ShloMosaic.TcCoe Idealize.ShloMosaic.Tactic

variable (m : (ℓ : Loc nD τ sig) → Buf (Elt Ideal) ℓ) (c : Dev nD)

/-- A gated block is the reference's rows and columns: block `cc` of the rows and `p` of the columns, whose two groups are
    `2 * p` and `2 * p + 1`. -/
theorem block_at (t : Fin cfg0.N) (cc : Fin 2) (p : Fin 4) (M0 M1 W U : Vec Ideal S128x128 .bf16) (Bi : Vec Ideal S128x128 .f32)
    (h0 : ∀ i k : Fin 128, M0 (ix2 i k) = val_main_v5 (F := Ideal) (m ((c : Thread nD τ).loc main_arg4)) (ix3 ⟨2 * p.val, by omega⟩ i k))
    (h1 : ∀ i k : Fin 128, M1 (ix2 i k) = val_main_v5 (F := Ideal) (m ((c : Thread nD τ).loc main_arg4)) (ix3 ⟨2 * p.val + 1, by omega⟩ i k))
    (hW : ∀ k j : Fin 128, W (ix2 k j) = (m ((c : Thread nD τ).loc main_arg3)) (ix2 (rowOf t (128 * cc.val + k.val) (by omega)) ⟨128 * p.val + j.val, by omega⟩))
    (hU : ∀ k j : Fin 128, U (ix2 k j) = (m ((c : Thread nD τ).loc main_arg2)) (ix2 (rowOf t (128 * cc.val + k.val) (by omega)) ⟨128 * p.val + j.val, by omega⟩))
    (hB : ∀ i j : Fin 128, Bi (ix2 i j) = (m ((c : Thread nD τ).loc main_arg5)) (ix2 ⟨(128 * p.val + j.val) / 64, by omega⟩ i)) (i j : Fin 128) :
    k0_pay15 (F := Ideal) k0_pay2 M0 M1 W Bi U (ix2 i j)
      = val_main_v14 (F := Ideal) (m ((c : Thread nD τ).loc main_arg2)) (m ((c : Thread nD τ).loc main_arg3)) (m ((c : Thread nD τ).loc main_arg4)) (m ((c : Thread nD τ).loc main_arg5)) (ix2 (rowOf t (128 * cc.val + i.val) (by omega)) ⟨128 * p.val + j.val, by omega⟩) := by
  have ht : t.val < 128 := Nat.lt_of_lt_of_eq t.isLt N_0
  rw [gated]
  refine Eq.trans ?_ (congrArg (fun y : EReal => HMul.hMul (α := EReal) (β := EReal) ((m ((c : Thread nD τ).loc main_arg2)) (ix2 (rowOf t (128 * cc.val + i.val) (by omega)) ⟨128 * p.val + j.val, by omega⟩)) y)
    (mixed_ref (m ((c : Thread nD τ).loc main_arg3)) (m ((c : Thread nD τ).loc main_arg4)) (m ((c : Thread nD τ).loc main_arg5)) (rowOf t (128 * cc.val + i.val) (by omega)) ⟨128 * p.val + j.val, by omega⟩).symm)
  rw [hU, hB]
  have hi : 128 * cc.val + i.val < 256 := by omega
  have hr : ∀ h, (⟨(rowOf t (128 * cc.val + i.val) hi).val % 128, h⟩ : Fin 128) = i :=
    fun h => Fin.ext (by show (256 * t.val + (128 * cc.val + i.val)) % 128 = i.val; omega)
  have hk : ∀ (k : Fin 128) h, (⟨(rowOf t (128 * cc.val + i.val) hi).val / 128 * 128 + k.val, h⟩ : Fin 32768)
      = rowOf t (128 * cc.val + k.val) (by omega) :=
    fun k h => Fin.ext (by show (256 * t.val + (128 * cc.val + i.val)) / 128 * 128 + k.val = 256 * t.val + (128 * cc.val + k.val); omega)
  simp only [hr, hk, hW]
  congr 2
  refine Finset.sum_congr rfl fun k _ => ?_
  rw [mul_comm]
  congr 1
  by_cases hj : j.val < 64
  · rw [if_pos hj, h0]
    exact congrArg (fun g => val_main_v5 (F := Ideal) (m ((c : Thread nD τ).loc main_arg4)) (ix3 g i k)) (Fin.ext (by show 2 * p.val = (128 * p.val + j.val) / 64; omega))
  · rw [if_neg hj, h1]
    exact congrArg (fun g => val_main_v5 (F := Ideal) (m ((c : Thread nD τ).loc main_arg4)) (ix3 g i k)) (Fin.ext (by show 2 * p.val + 1 = (128 * p.val + j.val) / 64; omega))

/-- Eight blocks of 128 rows and columns, joined. -/
def joined (B : Fin 2 → Fin 4 → FVec Ideal S128x128 .bf16) : FVec Ideal S256x512 .bf16 :=
  concatenate S256x512 0
    [⟨S128x512, concatenate S128x512 1 [⟨S128x128, B 0 0⟩, ⟨S128x128, B 0 1⟩, ⟨S128x128, B 0 2⟩, ⟨S128x128, B 0 3⟩] concatenates_S128x128_S128x128_S128x128_S128x128_S128x512_d1⟩,
     ⟨S128x512, concatenate S128x512 1 [⟨S128x128, B 1 0⟩, ⟨S128x128, B 1 1⟩, ⟨S128x128, B 1 2⟩, ⟨S128x128, B 1 3⟩] concatenates_S128x128_S128x128_S128x128_S128x128_S128x512_d1⟩]
    concatenates_S128x512_S128x512_S256x512_d0

/-- The joined blocks are the rows and columns of the array whose parts they are. -/
theorem joined_at (B : Fin 2 → Fin 4 → FVec Ideal S128x128 .bf16) (X : Fin 256 → Fin 512 → EReal)
    (hB : ∀ (cc : Fin 2) (p : Fin 4) (i j : Fin 128), B cc p (ix2 i j) = X ⟨128 * cc.val + i.val, by omega⟩ ⟨128 * p.val + j.val, by omega⟩)
    (r : Fin 256) (j : Fin 512) : joined B (ix2 r j) = X r j := by
  pointwise [joined]
  simp only [hB]
  split_ifs <;> exact congrArg₂ X (Fin.ext (by dsimp; omega)) (Fin.ext (by dsimp; omega))

/-- The two products with the halves of the weights are the one product. -/
theorem y_at (R : Fin 32768) (r : Fin 256) (L Q : FVec Ideal S256x512 .bf16) (W0 W1 : Vec Ideal S512x1024 .bf16)
    (hL : ∀ k : Fin 512, L (ix2 r k) = HMul.hMul (α := EReal) (β := EReal) ((m ((c : Thread nD τ).loc main_arg0)) (ix2 R k)) ((m ((c : Thread nD τ).loc main_arg1)) (ix2 R k)))
    (hQ : ∀ k : Fin 512, Q (ix2 r k) = val_main_v14 (F := Ideal) (m ((c : Thread nD τ).loc main_arg2)) (m ((c : Thread nD τ).loc main_arg3)) (m ((c : Thread nD τ).loc main_arg4)) (m ((c : Thread nD τ).loc main_arg5)) (ix2 R k))
    (h0 : ∀ (k : Fin 512) (j : Fin 1024), W0 (ix2 k j) = (m ((c : Thread nD τ).loc main_arg6)) (ix2 ⟨k.val, by omega⟩ j))
    (h1 : ∀ (k : Fin 512) (j : Fin 1024), W1 (ix2 k j) = (m ((c : Thread nD τ).loc main_arg6)) (ix2 ⟨512 + k.val, by omega⟩ j)) (j : Fin 1024) :
    ((∑ k : Fin 512, L (ix2 r k) * W0 (ix2 k j)) + ∑ k : Fin 512, Q (ix2 r k) * W1 (ix2 k j) : EReal)
      = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R j) := by
  pointwise [val_main_v16, val_main_v15, val_main_v12, val_main_v0, val_main_v1]
  simp only [hL, hQ, h0, h1]

/-- The body's rows are the reference's. -/
theorem row_at (R : Fin 32768) (r : Fin 256) (X0 X1 : Vec Ideal S256x512 .bf16) (Q : FVec Ideal S256x512 .bf16)
    (W0 W1 : Vec Ideal S512x1024 .bf16) (X8 : Vec Ideal S256x1024 .f32) (X7 : Vec Ideal S1x1024 .f32)
    (hX0 : ∀ k : Fin 512, X0 (ix2 r k) = (m ((c : Thread nD τ).loc main_arg0)) (ix2 R k)) (hX1 : ∀ k : Fin 512, X1 (ix2 r k) = (m ((c : Thread nD τ).loc main_arg1)) (ix2 R k))
    (hQ : ∀ k : Fin 512, Q (ix2 r k) = val_main_v14 (F := Ideal) (m ((c : Thread nD τ).loc main_arg2)) (m ((c : Thread nD τ).loc main_arg3)) (m ((c : Thread nD τ).loc main_arg4)) (m ((c : Thread nD τ).loc main_arg5)) (ix2 R k))
    (h0 : ∀ (k : Fin 512) (j : Fin 1024), W0 (ix2 k j) = (m ((c : Thread nD τ).loc main_arg6)) (ix2 ⟨k.val, by omega⟩ j))
    (h1 : ∀ (k : Fin 512) (j : Fin 1024), W1 (ix2 k j) = (m ((c : Thread nD τ).loc main_arg6)) (ix2 ⟨512 + k.val, by omega⟩ j))
    (h7 : ∀ k : Fin 1024, X7 (ix2 0 k) = (m ((c : Thread nD τ).loc main_arg7)) (ix1 k)) (h8 : ∀ k : Fin 1024, X8 (ix2 r k) = (m ((c : Thread nD τ).loc main_arg8)) (ix2 R k)) (j : Fin 1024) :
    k0_pay1 (F := Ideal) Q (k0_pay24 (k0_pay14 X0 X1) W0) W1 X8 X7 (ix2 r j)
      = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 R j) := by
  have hy := y_at m c R r (k0_pay14 (F := Ideal) X0 X1) Q W0 W1 (fun k => by pointwise [k0_pay14]; simp only [hX0, hX1]) hQ h0 h1
  generalize k0_pay14 (F := Ideal) X0 X1 = L at *
  pointwise [k0_pay1, k0_pay24, val_main_v30, val_main_v29, val_main_v28, val_main_v27, val_main_v26, val_main_v25, val_main_v24, val_main_v23, val_main_v22, val_main_cst_1, val_main_v21, val_main_v20, val_main_cst_0, val_main_v19, val_main_v18, val_main_cst, val_main_v17]
  simp only [hy, h7, h8]

end Cert.EvenOutIdeal.Hand

end
-- ==== Proof.EvenOut.Final.lean ====
/- The even layers' output is the reference's. -/
module

public import proofs.«01_k».proof.Proof.EvenOut.Value

@[expose] public section

set_option maxRecDepth 16384

noncomputable section

namespace Cert.EvenOutIdeal.Hand

open Cert.EvenOutIdeal Cert.EvenOutIdeal.Gen
open Cert.EvenOutRefIdeal.Read
open Idealize.ShloMosaic Idealize.ShloMosaic.TcCoe Idealize.ShloMosaic.Tactic

/-- Block `cc` of the rows and `p` of the columns. -/
def tile (cc : Fin 2) (p : Fin 4) : Rect S256x512 :=
  Rect.unit (s := S256x512) ![128 * cc.val, 128 * p.val] S128x128.size (by revert cc p; decide)

/-- Block `p` of the columns of the offsets. -/
def strip (p : Fin 4) : Rect S128x512 :=
  Rect.unit (s := S128x512) ![0, 128 * p.val] S128x128.size (by revert p; decide)

/-- The weights of a group. -/
def group (g : Fin 8) : Rect S8x128x128 :=
  Rect.unit (s := S8x128x128) ![g.val, 0, 0] S1x128x128.size (by revert g; decide)

/-- A tile's entry. -/
theorem tile_at (X : Vec Ideal S256x512 .bf16) (cc : Fin 2) (p : Fin 4) (i j : Fin 128) :
    (View.ld X (tile cc p) : Vec Ideal S128x128 .bf16) (ix2 i j) = X (ix2 ⟨128 * cc.val + i.val, by omega⟩ ⟨128 * p.val + j.val, by omega⟩) := by
  pointwise [tile]

/-- A strip's entry. -/
theorem strip_at (X : Vec Ideal S128x512 .f32) (p : Fin 4) (i j : Fin 128) :
    (View.ld X (strip p) : Vec Ideal S128x128 .f32) (ix2 i j) = X (ix2 i ⟨128 * p.val + j.val, by omega⟩) := by
  pointwise [strip]

/-- A group's entry. -/
theorem group_at (X : Vec Ideal S8x128x128 .f32) (g : Fin 8) (i j : Fin 128) :
    (View.ld X (group g) : Vec Ideal S1x128x128 .f32) (ix3 0 i j) = X (ix3 g i j) := by
  pointwise [group]

variable (m : (ℓ : Loc nD τ sig) → Buf (Elt Ideal) ℓ) (c : Dev nD)

/-- The gated blocks of a grid point. -/
def gatedOf (t : Fin cfg0.N) (cc : Fin 2) (p : Fin 4) : FVec Ideal S128x128 .bf16 :=
  k0_pay15 (F := Ideal) k0_pay2 (k0_pay4 (View.ld (iblk m c 4 t) (group ⟨2 * p.val, by omega⟩)))
    (k0_pay4 (View.ld (iblk m c 4 t) (group ⟨2 * p.val + 1, by omega⟩))) (View.ld (iblk m c 3 t) (tile cc p))
    (View.ld (iblk m c 5 t) (strip p)) (View.ld (iblk m c 2 t) (tile cc p))

theorem gatedOf_at (t : Fin cfg0.N) (cc : Fin 2) (p : Fin 4) (i j : Fin 128) :
    gatedOf m c t cc p (ix2 i j) = val_main_v14 (F := Ideal) (m ((c : Thread nD τ).loc main_arg2)) (m ((c : Thread nD τ).loc main_arg3)) (m ((c : Thread nD τ).loc main_arg4)) (m ((c : Thread nD τ).loc main_arg5)) (ix2 (rowOf t (128 * cc.val + i.val) (by omega)) ⟨128 * p.val + j.val, by omega⟩) :=
  block_at m c t cc p _ _ _ _ _
    (fun i k => mask_at _ _ _ (fun i k => (group_at _ _ i k).trans (blk4 m c t _ i k)) i k)
    (fun i k => mask_at _ _ _ (fun i k => (group_at _ _ i k).trans (blk4 m c t _ i k)) i k)
    (fun k j => (tile_at _ cc p k j).trans (blk3 m c t _ _))
    (fun k j => (tile_at _ cc p k j).trans (blk2 m c t _ _))
    (fun i j => (strip_at _ p i j).trans (blk5 m c t i _)) i j

/-- The upper half of the weights. -/
theorem upper (t : Fin cfg0.N) (k : Fin 512) (j : Fin 1024) :
    (View.ld (iblk m c 6 t) r0_21 : Vec Ideal S512x1024 .bf16) (ix2 k j) = (m ((c : Thread nD τ).loc main_arg6)) (ix2 ⟨k.val, by omega⟩ j) := by
  refine Eq.trans (b := iblk m c 6 t (ix2 ⟨k.val, by omega⟩ j)) ?_ (blk6 m c t _ _)
  pointwise []

/-- The lower half of the weights. -/
theorem lower (t : Fin cfg0.N) (k : Fin 512) (j : Fin 1024) :
    (View.ld (iblk m c 6 t) r0_22 : Vec Ideal S512x1024 .bf16) (ix2 k j) = (m ((c : Thread nD τ).loc main_arg6)) (ix2 ⟨512 + k.val, by omega⟩ j) := by
  refine Eq.trans (b := iblk m c 6 t (ix2 ⟨512 + k.val, by omega⟩ j)) ?_ (blk6 m c t _ _)
  pointwise []

/-- What the body leaves, by its gated blocks. -/
theorem out_eq (t : Fin cfg0.N) :
    out0_9 (iblk m c 0 t) (iblk m c 1 t) (iblk m c 2 t) (iblk m c 3 t) (iblk m c 4 t) (iblk m c 5 t) (iblk m c 6 t) (iblk m c 7 t) (iblk m c 8 t)
      = k0_pay1 (F := Ideal) (joined (gatedOf m c t)) (k0_pay24 (k0_pay14 (iblk m c 0 t) (iblk m c 1 t)) (View.ld (iblk m c 6 t) r0_21))
          (View.ld (iblk m c 6 t) r0_22) (iblk m c 8 t) (iblk m c 7 t) := by
  frame_out
  rfl

/-- The whole result. -/
theorem final : (dats m 0 c).arrAt 9 (cfgs 0).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9, out_eq, show y = ix2 (y 0) (y 1) by funext a; fin_cases a <;> rfl]
  refine (row_at m c (rowOf t (y 0).val (y 0).isLt) (y 0) _ _ _ _ _ _ _ (fun k => blk0 m c t (y 0) k) (fun k => blk1 m c t (y 0) k)
    (fun k => joined_at _ (fun r k => val_main_v14 (F := Ideal) (m ((c : Thread nD τ).loc main_arg2)) (m ((c : Thread nD τ).loc main_arg3)) (m ((c : Thread nD τ).loc main_arg4)) (m ((c : Thread nD τ).loc main_arg5)) (ix2 (rowOf t r.val r.isLt) k)) (gatedOf_at m c t) (y 0) k)
    (upper m c t) (lower m c t) (fun k => blk7 m c t k) (fun k => blk8 m c t (y 0) k) (y 1)).trans ?_
  unfold rowOf
  blk_ext [idx t]

end Cert.EvenOutIdeal.Hand

end
-- ==== Proof.EvenOut.Claims.lean ====
/- The claims about the even layers' output: its reference's frame, and the equality of the two results. -/
module

public import proofs.«01_k».proof.Defs
public import proofs.«01_k».proof.Proof.EvenOut.Final
public import proofs.«01_k».proof.Proof.Gen.EvenOutRefIdeal
public import proofs.«01_k».proof.Proof.Gen.EvenOutRefIdeal.Run
public import Idealize.ShloMosaic.Lib.Claim

@[expose] public section

set_option maxRecDepth 16384

noncomputable section

namespace Cert.EvenOut.Hand

open Idealize.ShloMosaic Idealize.ShloMosaic.TcCoe Idealize.SL.Sem

/-- The reference of the output runs, and leaves its arguments. -/
theorem frame_ref : Cert.quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

/-- The reference's result at equal arguments. -/
theorem ref_congr {x0 y0 x1 y1 x2 y2 x3 y3 x4 y4 x5 y5 x6 y6 x7 y7 x8 y8} (h0 : x0 = y0) (h1 : x1 = y1) (h2 : x2 = y2) (h3 : x3 = y3)
    (h4 : x4 = y4) (h5 : x5 = y5) (h6 : x6 = y6) (h7 : x7 = y7) (h8 : x8 = y8) :
    Cert.EvenOutRefIdeal.Read.val_main_v30 (F := Ideal) x0 x1 x2 x3 x4 x5 x6 x7 x8
      = Cert.EvenOutRefIdeal.Read.val_main_v30 (F := Ideal) y0 y1 y2 y3 y4 y5 y6 y7 y8 := by
  rw [h0, h1, h2, h3, h4, h5, h6, h7, h8]

/-- The output's result is the reference's. -/
theorem value : Cert.algebraic_EvenOutIdeal_EvenOutRefIdeal := by
  pair_intro
  · refine (θ_run _ _ _).mono (fun r h c => ⟨?_, h.2 c⟩)
      (θ_run_and (Cert.EvenOutIdeal.Gen.run_main m g) (Cert.EvenOutIdeal.Gen.unchanged m g))
    exact (h.1 c).1 9
  · refine (θ_run _ _ _).mono (fun r h c => ⟨(h c).1.trans ?_, (h c).2⟩) (Cert.EvenOutRefIdeal.Value.run (F := Ideal) m' g')
    refine (Cert.EvenOutRefIdeal.Read.val_main_v30_eq m' c).trans ?_
    obtain ⟨a0, a1, a2, a3, a4, a5, a6, a7, a8⟩ := hagree c
    exact (ref_congr a0 a1 a2 a3 a4 a5 a6 a7 a8).trans (Cert.EvenOutIdeal.Hand.final m c).symm

end Cert.EvenOut.Hand

end
-- ==== Proof.lean ====
module

public import proofs.«01_k».proof.Defs
public import proofs.«01_k».proof.Proof.Gen.Odd
public import proofs.«01_k».proof.Proof.Gen.Odd.Skeleton
public import proofs.«01_k».proof.Proof.Gen.Odd.Loops
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Loops
public import proofs.«01_k».proof.Proof.Gen.OddIdeal.Launch
public import proofs.«01_k».proof.Proof.Gen.OddIdeal.Points
public import proofs.«01_k».proof.Proof.Gen.OddIdeal.Frame
public import proofs.«01_k».proof.Proof.Gen.OddRefIdeal
public import proofs.«01_k».proof.Proof.Gen.OddRefIdeal.Run
public import proofs.«01_k».proof.Proof.Gen.OddRefIdeal.Read
public import proofs.«01_k».proof.Proof.Gen.EvenIn.Frame
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.EvenOut.Frame
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.EvenOutRefIdeal.Read
public import proofs.«01_k».proof.Proof.Odd.Frame
public import proofs.«01_k».proof.Proof.Odd.Claims
public import proofs.«01_k».proof.Proof.OddPlain.Frame
public import proofs.«01_k».proof.Proof.EvenIn.Claims
public import proofs.«01_k».proof.Proof.EvenOut.Claims
public import Idealize.ShloMosaic.Adequacy
public import Idealize.ShloMosaic.Init

@[expose] public section

noncomputable section

namespace Cert.Proof

open Idealize.ShloMosaic Idealize.SL.Sem Cert.Odd

theorem claim : Cert.Claim := ⟨Cert.Odd.Gen.facts, Cert.OddIdeal.Gen.facts, Cert.OddRefIdeal.Gen.facts,
  Cert.EvenIn.Gen.facts, Cert.EvenInIdeal.Gen.facts, Cert.EvenInRefIdeal.Gen.facts,
  Cert.EvenOut.Gen.facts, Cert.EvenOutIdeal.Gen.facts, Cert.EvenOutRefIdeal.Gen.facts,
  fun m ρ _ => Cert.Odd.Plain.frame m ρ,
  fun m ρ _ => Cert.OddIdeal.Hand.frame m ρ,
  Cert.Odd.Hand.frame_ref,
  fun m ρ _ => Cert.EvenIn.Gen.frame m ρ,
  fun m ρ _ => Cert.EvenInIdeal.Gen.frame m ρ,
  Cert.EvenIn.Hand.frame_ref,
  fun m ρ _ => Cert.EvenOut.Gen.frame m ρ,
  fun m ρ _ => Cert.EvenOutIdeal.Gen.frame m ρ,
  Cert.EvenOut.Hand.frame_ref,
  trivial,
  Cert.Odd.Hand.value,
  trivial,
  Cert.EvenIn.Hand.value,
  trivial,
  Cert.EvenOut.Hand.value⟩

end Cert.Proof

end
